-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![1, 8192, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![1, 8192, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x1024 .f32) (main_arg2 : FVec F S1x2048x8x128 .f32) (main_arg3 : FVec F S1x2048x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_

variable [Facts]

def fn {F : FTy → Type} [FloatOps F] (main_arg0 : FVec F S1x8192x1024 .f32) (main_arg1 : FVec F S1024x1024 .f32) (main_arg2 : FVec F S1x8192x8x128 .f32) (main_arg3 : FVec F S1x8192x8x128 .f32) (main_arg4 : FVec F S1024x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x8192x8x128 .f32 := Host.absf main_arg2
  let main_cst_2 : FVec F S_ .f32 := constant S_ .f32 0x7F800000#32
  let main_v10 : FVec F S1x8192x8x128 .f32 := broadcastInDim S1x8192x8x128 ![] bcast_S_S1x8192x8x128 main_cst_2
  let main_v11 : IVec S1x8192x8x128 1 := cmpf .olt main_v9 main_v10
  let main_c_3 : IVec S_ 1 := constantI S_ 1 1#1
  let main_v12 : IVec S_ 1 := (fun x v => Host.reduce IntOp.andi x v reducesTo_S1x8192x8x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S2304x1024 : Shape := ⟨2, ![2304, 1024]⟩
abbrev S2048x1024 : Shape := ⟨2, ![2048, 1024]⟩
abbrev S256x1024 : Shape := ⟨2, ![256, 1024]⟩
abbrev S8x2048x128 : Shape := ⟨3, ![8, 2048, 128]⟩
abbrev S16 : Shape := ⟨1, ![16]⟩
abbrev S4 : Shape := ⟨1, ![4]⟩
abbrev S1 : Shape := ⟨1, ![1]⟩
abbrev S_ : Shape := ⟨0, ![]⟩
abbrev S1x2048x128 : Shape := ⟨3, ![1, 2048, 128]⟩
abbrev S2048x128 : Shape := ⟨2, ![2048, 128]⟩
abbrev S1x2048x1x128 : Shape := ⟨4, ![1, 2048, 1, 128]⟩
abbrev S128x1024 : Shape := ⟨2, ![128, 1024]⟩
abbrev S256x512 : Shape := ⟨2, ![256, 512]⟩
abbrev S1x512 : Shape := ⟨2, ![1, 512]⟩
abbrev S256x128 : Shape := ⟨2, ![256, 128]⟩
abbrev S512x128 : Shape := ⟨2, ![512, 128]⟩
abbrev S256 : Shape := ⟨1, ![256]⟩
abbrev S256x1 : Shape := ⟨2, ![256, 1]⟩
abbrev S1x256x1024 : Shape := ⟨3, ![1, 256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x1024, .f32⟩
  | .local _ .vmem, ⟨4, _⟩ => ⟨S2304x1024, .bf16⟩
  | .local _ .vmem, ⟨5, _⟩ => ⟨S2304x1024, .bf16⟩
  | .local _ .vmem, ⟨6, _⟩ => ⟨S2048x1024, .bf16⟩
  | .local _ .vmem, ⟨7, _⟩ => ⟨S256x1024, .bf16⟩
  | .local _ .vmem, ⟨8, _⟩ => ⟨S1024x1024, .bf16⟩
  | .local _ .vmem, ⟨9, _⟩ => ⟨S8x2048x128, .f32⟩
  | .local _ .vmem, ⟨10, _⟩ => ⟨S8x2048x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 1 := Scalar.cmpi .sgt v2 c0_i32
  let v330 : BitVec 32 := Scalar.extui v3
  let c0_i32_333 : BitVec 32 := 0#32
  let v331 : BitVec 1 := Scalar.cmpi .ne v330 c0_i32_333
  v331

def k0_dev1 (d0 : Dev nD) : Nat :=
  let c0_i32_584 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.subi v2 c1_i32_0
  let c0_i32_1 : BitVec 32 := 0#32
  let v6 : BitVec 32 := Scalar.maxsi v5 c0_i32_1
  let c1_i32_583 : BitVec 32 := 1#32
  let v685 : BitVec 32 := Scalar.muli v6 c1_i32_583
  let v686 : BitVec 32 := Scalar.addi c0_i32_584 v685
  v686.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 1 := Scalar.cmpi .slt v2 c3_i32
  let v332 : BitVec 32 := Scalar.extui v4
  let c0_i32_334 : BitVec 32 := 0#32
  let v333 : BitVec 1 := Scalar.cmpi .ne v332 c0_i32_334
  v333

def k0_dev2 (d0 : Dev nD) : Nat :=
  let c0_i32_584 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.addi v2 c1_i32_2
  let c3_i32_3 : BitVec 32 := 3#32
  let v8 : BitVec 32 := Scalar.minsi v7 c3_i32_3
  let c1_i32_583 : BitVec 32 := 1#32
  let v685 : BitVec 32 := Scalar.muli v8 c1_i32_583
  let v686 : BitVec 32 := Scalar.addi c0_i32_584 v685
  v686.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 1 := Scalar.cmpi .slt v2 c3_i32
  let v338 : BitVec 32 := Scalar.extui v4
  let c0_i32_341 : BitVec 32 := 0#32
  let v339 : BitVec 1 := Scalar.cmpi .ne v338 c0_i32_341
  v339

def k0_dev3 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.addi v2 c1_i32_2
  let c3_i32_3 : BitVec 32 := 3#32
  let v8 : BitVec 32 := Scalar.minsi v7 c3_i32_3
  let c1_i32_582 : BitVec 32 := 1#32
  let v685 : BitVec 32 := Scalar.muli v8 c1_i32_582
  let v686 : BitVec 32 := Scalar.addi c0_i32_583 v685
  v686.toNat
def k0_dev4 (d0 : Dev nD) : Nat :=
  let c0_i32_589 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.addi v2 c1_i32_2
  let c3_i32_3 : BitVec 32 := 3#32
  let v8 : BitVec 32 := Scalar.minsi v7 c3_i32_3
  let c1_i32_588 : BitVec 32 := 1#32
  let v693 : BitVec 32 := Scalar.muli v8 c1_i32_588
  let v694 : BitVec 32 := Scalar.addi c0_i32_589 v693
  v694.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 1 := Scalar.cmpi .sgt v2 c0_i32
  let v340 : BitVec 32 := Scalar.extui v3
  let c0_i32_346 : BitVec 32 := 0#32
  let v341 : BitVec 1 := Scalar.cmpi .ne v340 c0_i32_346
  v341

def k0_dev5 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.subi v2 c1_i32_0
  let c0_i32_1 : BitVec 32 := 0#32
  let v6 : BitVec 32 := Scalar.maxsi v5 c0_i32_1
  let c1_i32_582 : BitVec 32 := 1#32
  let v685 : BitVec 32 := Scalar.muli v6 c1_i32_582
  let v686 : BitVec 32 := Scalar.addi c0_i32_583 v685
  v686.toNat
def k0_dev6 (d0 : Dev nD) : Nat :=
  let c0_i32_588 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.subi v2 c1_i32_0
  let c0_i32_1 : BitVec 32 := 0#32
  let v6 : BitVec 32 := Scalar.maxsi v5 c0_i32_1
  let c1_i32_587 : BitVec 32 := 1#32
  let v693 : BitVec 32 := Scalar.muli v6 c1_i32_587
  let v694 : BitVec 32 := Scalar.addi c0_i32_588 v693
  v694.toNat
@[reducible] def k0_t1_loop : Scf.Loop 32 :=
  let c1_i32_347 : BitVec 32 := 1#32
  let c6_i32_348 : BitVec 32 := 6#32
  let v352 : BitVec 32 := Scalar.addi c1_i32_347 c6_i32_348
  let c1_i32_349 : BitVec 32 := 1#32
  ⟨c1_i32_347, v352, c1_i32_349⟩
def k0_off1 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v700 : Index := Scalar.indexCast v685
  let c0_587 : Index := 0#32
  ![v700.toNat, 0]
def k0_off2 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v702 : Index := Scalar.indexCast v685
  let c0_588 : Index := 0#32
  ![v702.toNat, 0]
def k0_off3 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v721 : Index := Scalar.indexCast v685
  let c128_596 : Index := 128#32
  ![v721.toNat, 128]
def k0_off4 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v723 : Index := Scalar.indexCast v685
  let c128_597 : Index := 128#32
  ![v723.toNat, 128]
def k0_off5 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v742 : Index := Scalar.indexCast v685
  let c256_605 : Index := 256#32
  ![v742.toNat, 256]
def k0_off6 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v744 : Index := Scalar.indexCast v685
  let c256_606 : Index := 256#32
  ![v744.toNat, 256]
def k0_off7 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v763 : Index := Scalar.indexCast v685
  let c384_614 : Index := 384#32
  ![v763.toNat, 384]
def k0_off8 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v765 : Index := Scalar.indexCast v685
  let c384_615 : Index := 384#32
  ![v765.toNat, 384]
def k0_off9 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v784 : Index := Scalar.indexCast v685
  let c512_623 : Index := 512#32
  ![v784.toNat, 512]
def k0_off10 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v786 : Index := Scalar.indexCast v685
  let c512_624 : Index := 512#32
  ![v786.toNat, 512]
def k0_off11 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v805 : Index := Scalar.indexCast v685
  let c640_632 : Index := 640#32
  ![v805.toNat, 640]
def k0_off12 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v807 : Index := Scalar.indexCast v685
  let c640_633 : Index := 640#32
  ![v807.toNat, 640]
def k0_off13 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v826 : Index := Scalar.indexCast v685
  let c768_641 : Index := 768#32
  ![v826.toNat, 768]
def k0_off14 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v828 : Index := Scalar.indexCast v685
  let c768_642 : Index := 768#32
  ![v828.toNat, 768]
def k0_off15 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v847 : Index := Scalar.indexCast v685
  let c896_650 : Index := 896#32
  ![v847.toNat, 896]
def k0_off16 (k0_t1 : Fin k0_t1_loop.trips) : Fin 2 → Nat :=
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v849 : Index := Scalar.indexCast v685
  let c896_651 : Index := 896#32
  ![v849.toNat, 896]
def k0_off17 (k0_t1 : Fin k0_t1_loop.trips) : Fin 3 → Nat :=
  let c0_664 : Index := 0#32
  let c1_i32_347 : BitVec 32 := 1#32
  let c1_i32_349 : BitVec 32 := 1#32
  let arg16 : BitVec 32 := Scf.iv c1_i32_347 c1_i32_349 k0_t1
  let c256_i32_582 : BitVec 32 := 256#32
  let v685 : BitVec 32 := Scalar.muli arg16 c256_i32_582
  let v871 : Index := Scalar.indexCast v685
  let c0_665 : Index := 0#32
  ![0, v871.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S1x8x8192x8192 : Shape := ⟨4, ![1, 8, 8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x1x8192x1 : Shape := ⟨4, ![1, 1, 8192, 1]⟩
abbrev S1x8x128x8192 : Shape := ⟨4, ![1, 8, 128, 8192]⟩

abbrev nBuf : Space → Nat
  | .hbm => 57
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x8x128, .f32⟩
  | .hbm, ⟨3, _⟩ => ⟨S1x8192x8x128, .f32⟩
  | .hbm, ⟨4, _⟩ => ⟨S1024x1024, .f32⟩
  | .hbm, ⟨5, _⟩ => ⟨S1x8192x1024, .f32⟩
  | .hbm, ⟨6, _⟩ => ⟨S1x8192x8x128, .f32⟩
  | .hbm, ⟨7, _⟩ => ⟨S8192, .i32⟩
  | .hbm, ⟨8, _⟩ => ⟨S8192x1, .i32⟩
  | .hbm, ⟨9, _⟩ => ⟨S8192, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i1⟩
  | .hbm, ⟨18, _⟩ => ⟨S1x8x8192x8192, .f32⟩
  | .hbm, ⟨19, _⟩ => ⟨S_, .f32⟩
  | .hbm, ⟨20, _⟩ => ⟨S1x8x8192x8192, .f32⟩
  | .hbm, ⟨21, _⟩ => ⟨S1x8x8192x8192, .f32⟩
  | .hbm, ⟨22, _⟩ => ⟨S1x1x8192x8192, .i1⟩
  | .hbm, ⟨23, _⟩ => ⟨S_, .f32⟩
  | .hbm, ⟨24, _⟩ => ⟨S_, .f32⟩
  | .hbm, ⟨25, _⟩ => ⟨S1x8x8192x8192, .i1⟩
  | .hbm, ⟨26, _⟩ => ⟨S1x8x8192x8192, .f32⟩
  | .hbm, ⟨27, _⟩ => ⟨S1x8x8192x8192, .f32⟩
  | .hbm, ⟨28, _⟩ => ⟨S_, .f32⟩
  | .hbm, ⟨29, _⟩ => ⟨S1x8x8192, .f32⟩
  | .hbm, ⟨30, _⟩ => ⟨S1x8x8192x1, .f32⟩
  | .hbm, ⟨31, _⟩ => ⟨S1x8x8192x8192, .f32⟩
  | .hbm, ⟨32, _⟩ => ⟨S1x8x8192x8192, .f32⟩
  | .hbm, ⟨33, _⟩ => ⟨S1x8x8192x8192, .f32⟩
  | .hbm, ⟨34, _⟩ => ⟨S_, .i1⟩
  | .hbm, ⟨35, _⟩ => ⟨S8192, .i1⟩
  | .hbm, ⟨36, _⟩ => ⟨S1x1x8192x1, .i1⟩
  | .hbm, ⟨37, _⟩ => ⟨S_, .f32⟩
  | .hbm, ⟨38, _⟩ => ⟨S1x8x8192, .f32⟩
  | .hbm, ⟨39, _⟩ => ⟨S1x8x8192x1, .f32⟩
  | .hbm, ⟨40, _⟩ => ⟨S_, .f32⟩
  | .hbm, ⟨41, _⟩ => ⟨S_, .f32⟩
  | .hbm, ⟨42, _⟩ => ⟨S1x8x8192x1, .i1⟩
  | .hbm, ⟨43, _⟩ => ⟨S1x8x8192x1, .f32⟩
  | .hbm, ⟨44, _⟩ => ⟨S1x8x8192x1, .f32⟩
  | .hbm, ⟨45, _⟩ => ⟨S1x8x8192x8192, .f32⟩
  | .hbm, ⟨46, _⟩ => ⟨S1x8x8192x8192, .f32⟩
  | .hbm, ⟨47, _⟩ => ⟨S1x1x8192x1, .i1⟩
  | .hbm, ⟨48, _⟩ => ⟨S_, .f32⟩
  | .hbm, ⟨49, _⟩ => ⟨S_, .f32⟩
  | .hbm, ⟨50, _⟩ => ⟨S1x8x8192x8192, .i1⟩
  | .hbm, ⟨51, _⟩ => ⟨S1x8x8192x8192, .f32⟩
  | .hbm, ⟨52, _⟩ => ⟨S1x8x8192x8192, .f32⟩
  | .hbm, ⟨53, _⟩ => ⟨S1x8x128x8192, .f32⟩
  | .hbm, ⟨54, _⟩ => ⟨S1x8192x8x128, .f32⟩
  | .hbm, ⟨55, _⟩ => ⟨S1x8192x1024, .f32⟩
  | .hbm, ⟨56, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Basic.lean ====
/-
  The setting of the proof: the resource algebra (the pipeline's rounds, the halo exchange's rounds and the local
  copies' counters), the buffers by their names in the kernel, and the contents that the two extended buffers hold.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Launch
public import Idealize.ShloMosaic.Lib.Pipeline.FrameBody
public import Idealize.ShloMosaic.Lib.Pipeline.Kit
public import Idealize.ShloMosaic.Lib.Transfers
public import Idealize.ShloMosaic.Lib.Tactic
public import Idealize.ShloMosaic.Lib.Rounds
public import Idealize.ShloMosaic.Lib.ValueLayout
public import Idealize.ShloMosaic.Lib.ViewIndex

@[expose] public section

noncomputable section

namespace Cert.KernelIdeal.Halo

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The halo exchange's rounds: two duties a cell at most, named by a `Bool`. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ 𝕄) := by infer_instance

/-! ## The buffers, by their names in the kernel -/

abbrev xM : Memref sig .tc .vmem S1x2048x1024 .f32 := Memref.whole cc0_stg0_0
abbrev wqM : Memref sig .tc .vmem S1024x1024 .f32 := Memref.whole cc0_stg1_0
abbrev kM : Memref sig .tc .hbm S1x2048x8x128 .f32 := Memref.whole main_arg2
abbrev vM : Memref sig .tc .hbm S1x2048x8x128 .f32 := Memref.whole main_arg3
abbrev woM : Memref sig .tc .vmem S1024x1024 .f32 := Memref.whole cc0_stg2_0
abbrev oM : Memref sig .tc .vmem S1x2048x1024 .f32 := Memref.whole cc0_stg3_0
abbrev kbM : Memref sig .tc .vmem S2304x1024 .bf16 := Memref.whole cc0_scratch0
abbrev vbM : Memref sig .tc .vmem S2304x1024 .bf16 := Memref.whole cc0_scratch1
abbrev qbM : Memref sig .tc .vmem S2048x1024 .bf16 := Memref.whole cc0_scratch2
abbrev cbM : Memref sig .tc .vmem S256x1024 .bf16 := Memref.whole cc0_scratch3
abbrev wobM : Memref sig .tc .vmem S1024x1024 .bf16 := Memref.whole cc0_scratch4
abbrev kstM : Memref sig .tc .vmem S8x2048x128 .f32 := Memref.whole cc0_scratch5
abbrev vstM : Memref sig .tc .vmem S8x2048x128 .f32 := Memref.whole cc0_scratch6

/-- A whole buffer of device `c` at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The semaphores: the runtime's barrier semaphore (unscoped), the sixteen of the local copies, the four that the
    remote copies credit at their sender and the four that they credit at their receiver. -/
abbrev barS : Sem sig := (SemArray.scalar (sig.barrier 0 rfl) : Sems sig S_).sem
abbrev copyS : DmaSems sig S16 := cc0_scratch7
abbrev sendS : DmaSems sig S4 := cc0_scratch8
abbrev recvS : DmaSems sig S4 := cc0_scratch9

/-- No call in the program is to another function's specification. -/
abbrev 𝒱₀ : Variants := Variants.none

/-! ## The contents of the extended buffers -/

/-- What the staging buffer of `k` (or `v`) holds after the eight copies: head by head, the rows of that head. -/
def stageOf (k : Vec F S1x2048x8x128 .f32) : Vec F S8x2048x128 .f32 :=
  fun y => k (ix4 (0 : Fin 1) (y 1) (y 0) (y 2))

/-- The extended buffer before the neighbours' rows arrive: the device's own rows in place (row `r` of the device at
    row `128 + r`, head `h` at columns `128 h …`), rounded to bf16, and zeros in the two halos. -/
def extOwn (k : Vec F S1x2048x8x128 .f32) : Vec F S2304x1024 .bf16 := fun y =>
  if h : 128 ≤ (y 0).val ∧ (y 0).val < 2176 then
    FloatOps.truncf .bf16 bitsLt_bf16_f32 (k (ix4 (0 : Fin 1) (⟨(y 0).val - 128, by omega⟩ : Fin 2048)
      (⟨(y 1).val / 128, by have : (y 1).val < 1024 := (y 1).isLt; omega⟩ : Fin 8)
      (⟨(y 1).val % 128, Nat.mod_lt _ (by omega)⟩ : Fin 128)))
  else Scalar.ofBits .bf16 0x0000#16

end Cert.KernelIdeal.Halo

end
-- ==== Proof.Stage.lean ====
/-
  What the local copies leave in the staging buffers and what the stores of the eight heads and of the zero rows leave
  in the extended buffers, as plain functions of the device's blocks of `k` and `v`.
-/
module

public import proofs.«01_k».proof.Proof.Basic
public import Idealize.ShloMosaic.Lib.Writes
public import Idealize.ShloMosaic.Lib.Pipeline.Value

@[expose] public section

set_option maxRecDepth 16384

noncomputable section

namespace Cert.KernelIdeal.Halo

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A copy of one head into its plane of the staging buffer is a write of that plane of `stageOf`. -/
theorem stage_write (M : Memref sig .tc .vmem S8x2048x128 .f32) (K : Memref sig .tc .hbm S1x2048x8x128 .f32) (h : ℕ)
    (inb : ∀ a, (![h, 0, 0] : Fin 3 → ℕ) a + S1x2048x128.size a ≤ S8x2048x128.size a)
    (inb' : ∀ a, (![0, 0, h, 0] : Fin 4 → ℕ) a + S1x2048x1x128.size a ≤ S1x2048x8x128.size a)
    (pr : ∀ a, (Rect.unit (s := S8x2048x128) ![h, 0, 0] S1x2048x128.size inb).stride a = 1)
    (pr' : ∀ a, (Rect.unit (s := S1x2048x8x128) ![0, 0, h, 0] S1x2048x1x128.size inb').stride a = 1)
    (f : M.view.ty.Contents (Elt F)) (k : K.view.ty.Contents (Elt F)) :
    View.write (Elt F) ((M.slice (Rect.unit (s := S8x2048x128) ![h, 0, 0] S1x2048x128.size inb) pr).squeeze S2048x128
        squeezes_S1x2048x128_S2048x128).view f
      (ReadAs.same.apply (View.read (Elt F) ((K.slice (Rect.unit (s := S1x2048x8x128) ![0, 0, h, 0] S1x2048x1x128.size inb') pr').squeeze
        S2048x128 squeezes_S1x2048x1x128_S2048x128).view k)) Finset.univ
      = M.view.writes (Elt F) f [⟨Rect.unit (s := S8x2048x128) ![h, 0, 0] S1x2048x128.size inb,
          fun x => stageOf (F := F) (K.view.read (Elt F) k) ((Rect.unit (s := S8x2048x128) ![h, 0, 0] S1x2048x128.size inb).emb x)⟩] := by
  refine (View.write_reshape_univ (v := (M.slice (Rect.unit (s := S8x2048x128) ![h, 0, 0] S1x2048x128.size inb) pr).view)
    squeezes_S1x2048x128_S2048x128.numel_eq f _).trans ?_
  refine congrArg (fun w => View.write (Elt F) (M.slice (Rect.unit (s := S8x2048x128) ![h, 0, 0] S1x2048x128.size inb) pr).view f w Finset.univ)
    (funext fun x => ?_)
  show K.view.read (Elt F) k ((Rect.unit (s := S1x2048x8x128) ![0, 0, h, 0] S1x2048x1x128.size inb').emb
    (Shape.reshapeEquiv squeezes_S1x2048x1x128_S2048x128.numel_eq ((Shape.reshapeEquiv squeezes_S1x2048x128_S2048x128.numel_eq).symm x))) = _
  obtain ⟨u, r, c, rfl⟩ : ∃ (u : Fin 1) (r : Fin 2048) (c : Fin 128), x = (ix3 u r c : S1x2048x128.Idx) := ⟨x 0, x 1, x 2, eq_ix3 x⟩
  have hu : u.val < 1 := u.isLt
  have m2 : (S2048x128.rowMajor (ix2 r c)).val = r.val * 128 + c.val := Shape.rowMajor_val_two _
  have m3 : (S1x2048x128.rowMajor (ix3 u r c)).val = (u.val * 2048 + r.val) * 128 + c.val := Shape.rowMajor_val_three _
  have m4 : (S1x2048x1x128.rowMajor (ix4 (0 : Fin 1) r (0 : Fin 1) c)).val = ((0 * 2048 + r.val) * 1 + 0) * 128 + c.val :=
    Shape.rowMajor_val_four _
  have e2 : (Shape.reshapeEquiv squeezes_S1x2048x128_S2048x128.numel_eq).symm (ix3 u r c : S1x2048x128.Idx) = (ix2 r c : S2048x128.Idx) :=
    (Equiv.symm_apply_eq _).mpr (Shape.reshapeEquiv_eq_of_rowMajor _ (by rw [m2, m3]; omega)).symm
  have e3 : Shape.reshapeEquiv squeezes_S1x2048x1x128_S2048x128.numel_eq (ix2 r c : S2048x128.Idx)
      = (ix4 (0 : Fin 1) r (0 : Fin 1) c : S1x2048x1x128.Idx) :=
    Shape.reshapeEquiv_eq_of_rowMajor _ (by rw [m2, m4]; omega)
  refine (congrArg (fun z => K.view.read (Elt F) k ((Rect.unit (s := S1x2048x8x128) ![0, 0, h, 0] S1x2048x1x128.size inb').emb
    (Shape.reshapeEquiv squeezes_S1x2048x1x128_S2048x128.numel_eq z))) e2).trans ?_
  refine (congrArg (fun z => K.view.read (Elt F) k ((Rect.unit (s := S1x2048x8x128) ![0, 0, h, 0] S1x2048x1x128.size inb').emb z)) e3).trans ?_
  refine congrArg (K.view.read (Elt F) k) (funext fun a => ?_)
  match a with
  | ⟨0, _⟩ => exact Fin.ext rfl
  | ⟨1, _⟩ => exact Fin.ext rfl
  | ⟨2, _⟩ => exact Fin.ext (show h + 1 * 0 = h + 1 * u.val by omega)
  | ⟨3, _⟩ => exact Fin.ext rfl

/-- The rounded rows of head `h`, read from the staging buffer, are the head's columns of `extOwn`. -/
theorem head_piece (h : ℕ) (inb : ∀ a, (![h, 0, 0] : Fin 3 → ℕ) a + S1x2048x128.size a ≤ S8x2048x128.size a)
    (o : ℕ) (ho : o = 128 * h) (inb' : ∀ a, (![128, o] : Fin 2 → ℕ) a + (![2048, 128] : Fin 2 → ℕ) a ≤ S2304x1024.size a)
    (k : Vec F S1x2048x8x128 .f32) (w : Vec F S1x2048x128 .f32)
    (hw : ∀ x, w x = stageOf k ((Rect.unit (s := S8x2048x128) ![h, 0, 0] S1x2048x128.size inb).emb x))
    (x : S2048x128.Idx) :
    k0_pay13 w x = extOwn k ((Rect.unit (s := S2304x1024) ![128, o] ![2048, 128] inb').emb x) := by
  subst ho
  obtain ⟨r, c, rfl⟩ : ∃ (r : Fin 2048) (c : Fin 128), x = ix2 r c := ⟨x 0, x 1, eq_ix2 x⟩
  have hr := r.isLt
  have hc := c.isLt
  have hh : h + 1 ≤ 8 := inb 0
  have e0 : (((Rect.unit (s := S2304x1024) ![128, 128 * h] ![2048, 128] inb').emb (ix2 r c)) 0).val = 128 + 1 * r.val := rfl
  have e1 : (((Rect.unit (s := S2304x1024) ![128, 128 * h] ![2048, 128] inb').emb (ix2 r c)) 1).val = 128 * h + 1 * c.val := rfl
  unfold k0_pay13 extOwn
  rw [dif_pos (by rw [e0]; omega)]
  rw [shapeCast_self]
  refine congrArg (FloatOps.truncf .bf16 bitsLt_bf16_f32) ?_
  rw [shapeCast_1ab_ab_apply, hw]
  refine congrArg k (funext fun a => ?_)
  match a with
  | ⟨0, _⟩ => rfl
  | ⟨1, _⟩ => exact Fin.ext (show 0 + 1 * r.val = _ - 128 by rw [e0]; omega)
  | ⟨2, _⟩ => exact Fin.ext (show h + 1 * 0 = _ / 128 by rw [e1]; omega)
  | ⟨3, _⟩ => exact Fin.ext (show 0 + 1 * c.val = _ % 128 by rw [e1]; omega)

/-- A row of zeros agrees with `extOwn` where it is stored, in either halo. -/
theorem zero_piece (o : ℕ) (ho : o = 0 ∨ o = 2176) (inb' : ∀ a, (![o, 0] : Fin 2 → ℕ) a + (![128, 1024] : Fin 2 → ℕ) a ≤ S2304x1024.size a)
    (k : Vec F S1x2048x8x128 .f32) (x : S128x1024.Idx) :
    k0_pay32 (F := F) x = extOwn k ((Rect.unit (s := S2304x1024) ![o, 0] ![128, 1024] inb').emb x) := by
  have hx : (x 0).val < 128 := (x 0).isLt
  have e0 : (((Rect.unit (s := S2304x1024) ![o, 0] ![128, 1024] inb').emb x) 0).val = o + 1 * (x 0).val := rfl
  unfold extOwn
  rw [dif_neg (by rw [e0]; omega)]
  rfl

/-- What a place of the staging buffer reads after one head's copy. -/
theorem stage_step (M : Memref sig .tc .vmem S8x2048x128 .f32) (K : Memref sig .tc .hbm S1x2048x8x128 .f32) (h : ℕ)
    (inb : ∀ a, (![h, 0, 0] : Fin 3 → ℕ) a + S1x2048x128.size a ≤ S8x2048x128.size a)
    (inb' : ∀ a, (![0, 0, h, 0] : Fin 4 → ℕ) a + S1x2048x1x128.size a ≤ S1x2048x8x128.size a)
    (pr : ∀ a, (Rect.unit (s := S8x2048x128) ![h, 0, 0] S1x2048x128.size inb).stride a = 1)
    (pr' : ∀ a, (Rect.unit (s := S1x2048x8x128) ![0, 0, h, 0] S1x2048x1x128.size inb').stride a = 1)
    (f : M.view.ty.Contents (Elt F)) (k : K.view.ty.Contents (Elt F)) (y : S8x2048x128.Idx) :
    M.view.read (Elt F) (View.write (Elt F) ((M.slice (Rect.unit (s := S8x2048x128) ![h, 0, 0] S1x2048x128.size inb) pr).squeeze S2048x128
        squeezes_S1x2048x128_S2048x128).view f
      (ReadAs.same.apply (View.read (Elt F) ((K.slice (Rect.unit (s := S1x2048x8x128) ![0, 0, h, 0] S1x2048x1x128.size inb') pr').squeeze
        S2048x128 squeezes_S1x2048x1x128_S2048x128).view k)) Finset.univ) y
      = if (y 0).val = h then stageOf (F := F) (K.view.read (Elt F) k) y else M.view.read (Elt F) f y := by
  rw [stage_write M K h inb inb' pr pr' f k]
  have h1 : (y 1).val < 2048 := (y 1).isLt
  have h2 : (y 2).val < 128 := (y 2).isLt
  by_cases e : (y 0).val = h
  · rw [if_pos e]
    refine View.read_writes_apply_of_pieces M.view f (stageOf (F := F) (K.view.read (Elt F) k)) _ (fun p hp => ?_) y ⟨_, List.mem_cons_self, ?_⟩
    · rw [List.mem_singleton.mp hp]
      exact fun _ => rfl
    · exact (Rect.mem_set_unit (inb := inb)).mpr fun a => match a with
        | ⟨0, _⟩ => ⟨show h ≤ (y 0).val by omega, show (y 0).val < h + 1 by omega⟩
        | ⟨1, _⟩ => ⟨show 0 ≤ (y 1).val by omega, show (y 1).val < 0 + 2048 by omega⟩
        | ⟨2, _⟩ => ⟨show 0 ≤ (y 2).val by omega, show (y 2).val < 0 + 128 by omega⟩
  · rw [if_neg e]
    exact View.read_writes_cons_miss_of_axis M.view f _ [] y 0 h 1 rfl rfl rfl (by omega)

/-- The eight copies together leave `stageOf`. -/
theorem stage_all (M : Memref sig .tc .vmem S8x2048x128 .f32) (K : Memref sig .tc .hbm S1x2048x8x128 .f32)
    (f : M.view.ty.Contents (Elt F)) (k : K.view.ty.Contents (Elt F)) :
    M.view.read (Elt F) (View.write (Elt F) ((M.slice (Rect.unit (s := S8x2048x128) ![7, 0, 0] S1x2048x128.size inb_S8x2048x128_S1x2048x128_7_0_0) (fun _ => rfl)).squeeze S2048x128
      squeezes_S1x2048x128_S2048x128).view (View.write (Elt F) ((M.slice (Rect.unit (s := S8x2048x128) ![6, 0, 0] S1x2048x128.size inb_S8x2048x128_S1x2048x128_6_0_0) (fun _ => rfl)).squeeze S2048x128
      squeezes_S1x2048x128_S2048x128).view (View.write (Elt F) ((M.slice (Rect.unit (s := S8x2048x128) ![5, 0, 0] S1x2048x128.size inb_S8x2048x128_S1x2048x128_5_0_0) (fun _ => rfl)).squeeze S2048x128
      squeezes_S1x2048x128_S2048x128).view (View.write (Elt F) ((M.slice (Rect.unit (s := S8x2048x128) ![4, 0, 0] S1x2048x128.size inb_S8x2048x128_S1x2048x128_4_0_0) (fun _ => rfl)).squeeze S2048x128
      squeezes_S1x2048x128_S2048x128).view (View.write (Elt F) ((M.slice (Rect.unit (s := S8x2048x128) ![3, 0, 0] S1x2048x128.size inb_S8x2048x128_S1x2048x128_3_0_0) (fun _ => rfl)).squeeze S2048x128
      squeezes_S1x2048x128_S2048x128).view (View.write (Elt F) ((M.slice (Rect.unit (s := S8x2048x128) ![2, 0, 0] S1x2048x128.size inb_S8x2048x128_S1x2048x128_2_0_0) (fun _ => rfl)).squeeze S2048x128
      squeezes_S1x2048x128_S2048x128).view (View.write (Elt F) ((M.slice (Rect.unit (s := S8x2048x128) ![1, 0, 0] S1x2048x128.size inb_S8x2048x128_S1x2048x128_1_0_0) (fun _ => rfl)).squeeze S2048x128
      squeezes_S1x2048x128_S2048x128).view (View.write (Elt F) ((M.slice (Rect.unit (s := S8x2048x128) ![0, 0, 0] S1x2048x128.size inb_S8x2048x128_S1x2048x128_0_0_0) (fun _ => rfl)).squeeze S2048x128
      squeezes_S1x2048x128_S2048x128).view f (ReadAs.same.apply (View.read (Elt F) ((K.slice (Rect.unit (s := S1x2048x8x128) ![0, 0, 0, 0] S1x2048x1x128.size
        inb_S1x2048x8x128_S1x2048x1x128_0_0_0_0) (fun _ => rfl)).squeeze S2048x128 squeezes_S1x2048x1x128_S2048x128).view k)) Finset.univ) (ReadAs.same.apply (View.read (Elt F) ((K.slice (Rect.unit (s := S1x2048x8x128) ![0, 0, 1, 0] S1x2048x1x128.size
        inb_S1x2048x8x128_S1x2048x1x128_0_0_1_0) (fun _ => rfl)).squeeze S2048x128 squeezes_S1x2048x1x128_S2048x128).view k)) Finset.univ) (ReadAs.same.apply (View.read (Elt F) ((K.slice (Rect.unit (s := S1x2048x8x128) ![0, 0, 2, 0] S1x2048x1x128.size
        inb_S1x2048x8x128_S1x2048x1x128_0_0_2_0) (fun _ => rfl)).squeeze S2048x128 squeezes_S1x2048x1x128_S2048x128).view k)) Finset.univ) (ReadAs.same.apply (View.read (Elt F) ((K.slice (Rect.unit (s := S1x2048x8x128) ![0, 0, 3, 0] S1x2048x1x128.size
        inb_S1x2048x8x128_S1x2048x1x128_0_0_3_0) (fun _ => rfl)).squeeze S2048x128 squeezes_S1x2048x1x128_S2048x128).view k)) Finset.univ) (ReadAs.same.apply (View.read (Elt F) ((K.slice (Rect.unit (s := S1x2048x8x128) ![0, 0, 4, 0] S1x2048x1x128.size
        inb_S1x2048x8x128_S1x2048x1x128_0_0_4_0) (fun _ => rfl)).squeeze S2048x128 squeezes_S1x2048x1x128_S2048x128).view k)) Finset.univ) (ReadAs.same.apply (View.read (Elt F) ((K.slice (Rect.unit (s := S1x2048x8x128) ![0, 0, 5, 0] S1x2048x1x128.size
        inb_S1x2048x8x128_S1x2048x1x128_0_0_5_0) (fun _ => rfl)).squeeze S2048x128 squeezes_S1x2048x1x128_S2048x128).view k)) Finset.univ) (ReadAs.same.apply (View.read (Elt F) ((K.slice (Rect.unit (s := S1x2048x8x128) ![0, 0, 6, 0] S1x2048x1x128.size
        inb_S1x2048x8x128_S1x2048x1x128_0_0_6_0) (fun _ => rfl)).squeeze S2048x128 squeezes_S1x2048x1x128_S2048x128).view k)) Finset.univ) (ReadAs.same.apply (View.read (Elt F) ((K.slice (Rect.unit (s := S1x2048x8x128) ![0, 0, 7, 0] S1x2048x1x128.size
        inb_S1x2048x8x128_S1x2048x1x128_0_0_7_0) (fun _ => rfl)).squeeze S2048x128 squeezes_S1x2048x1x128_S2048x128).view k)) Finset.univ) = stageOf (F := F) (K.view.read (Elt F) k) := by
  funext y
  have hy : (y 0).val < 8 := (y 0).isLt
  rw [stage_step M K 7, stage_step M K 6, stage_step M K 5, stage_step M K 4, stage_step M K 3, stage_step M K 2, stage_step M K 1,
    stage_step M K 0]
  split_ifs <;> first | rfl | omega

/-- The eight heads' columns and the two zeroed halos make `extOwn`. -/
theorem ext_all (M : Memref sig .tc .vmem S2304x1024 .bf16) (f : M.view.ty.Contents (Elt F)) (k : Vec F S1x2048x8x128 .f32) (w0 : Vec F S128x1024 .bf16) (w1 : Vec F S128x1024 .bf16) (w2 : Vec F S2048x128 .bf16) (w3 : Vec F S2048x128 .bf16) (w4 : Vec F S2048x128 .bf16) (w5 : Vec F S2048x128 .bf16) (w6 : Vec F S2048x128 .bf16) (w7 : Vec F S2048x128 .bf16) (w8 : Vec F S2048x128 .bf16) (w9 : Vec F S2048x128 .bf16)
    (h0 : ∀ x, w0 x = extOwn k ((Rect.unit (s := S2304x1024) ![2176, 0] ![128, 1024] inb_S2304x1024_S128x1024_2176_0).emb x))
    (h1 : ∀ x, w1 x = extOwn k ((Rect.unit (s := S2304x1024) ![0, 0] ![128, 1024] inb_S2304x1024_S128x1024_0_0).emb x))
    (h2 : ∀ x, w2 x = extOwn k ((Rect.unit (s := S2304x1024) ![128, 896] ![2048, 128] inb_S2304x1024_S2048x128_128_896).emb x))
    (h3 : ∀ x, w3 x = extOwn k ((Rect.unit (s := S2304x1024) ![128, 768] ![2048, 128] inb_S2304x1024_S2048x128_128_768).emb x))
    (h4 : ∀ x, w4 x = extOwn k ((Rect.unit (s := S2304x1024) ![128, 640] ![2048, 128] inb_S2304x1024_S2048x128_128_640).emb x))
    (h5 : ∀ x, w5 x = extOwn k ((Rect.unit (s := S2304x1024) ![128, 512] ![2048, 128] inb_S2304x1024_S2048x128_128_512).emb x))
    (h6 : ∀ x, w6 x = extOwn k ((Rect.unit (s := S2304x1024) ![128, 384] ![2048, 128] inb_S2304x1024_S2048x128_128_384).emb x))
    (h7 : ∀ x, w7 x = extOwn k ((Rect.unit (s := S2304x1024) ![128, 256] ![2048, 128] inb_S2304x1024_S2048x128_128_256).emb x))
    (h8 : ∀ x, w8 x = extOwn k ((Rect.unit (s := S2304x1024) ![128, 128] ![2048, 128] inb_S2304x1024_S2048x128_128_128).emb x))
    (h9 : ∀ x, w9 x = extOwn k ((Rect.unit (s := S2304x1024) ![128, 0] ![2048, 128] inb_S2304x1024_S2048x128_128_0).emb x)) :
    M.view.read (Elt F) (M.view.writes (Elt F) f [⟨Rect.unit (s := S2304x1024) ![2176, 0] ![128, 1024] inb_S2304x1024_S128x1024_2176_0, w0⟩, ⟨Rect.unit (s := S2304x1024) ![0, 0] ![128, 1024] inb_S2304x1024_S128x1024_0_0, w1⟩, ⟨Rect.unit (s := S2304x1024) ![128, 896] ![2048, 128] inb_S2304x1024_S2048x128_128_896, w2⟩, ⟨Rect.unit (s := S2304x1024) ![128, 768] ![2048, 128] inb_S2304x1024_S2048x128_128_768, w3⟩, ⟨Rect.unit (s := S2304x1024) ![128, 640] ![2048, 128] inb_S2304x1024_S2048x128_128_640, w4⟩, ⟨Rect.unit (s := S2304x1024) ![128, 512] ![2048, 128] inb_S2304x1024_S2048x128_128_512, w5⟩, ⟨Rect.unit (s := S2304x1024) ![128, 384] ![2048, 128] inb_S2304x1024_S2048x128_128_384, w6⟩, ⟨Rect.unit (s := S2304x1024) ![128, 256] ![2048, 128] inb_S2304x1024_S2048x128_128_256, w7⟩, ⟨Rect.unit (s := S2304x1024) ![128, 128] ![2048, 128] inb_S2304x1024_S2048x128_128_128, w8⟩, ⟨Rect.unit (s := S2304x1024) ![128, 0] ![2048, 128] inb_S2304x1024_S2048x128_128_0, w9⟩]) = extOwn k := by
  funext y
  have hy : (y 0).val < 2304 := (y 0).isLt
  have hy1 : (y 1).val < 1024 := (y 1).isLt
  refine View.read_writes_apply_of_pieces M.view f (extOwn k) [⟨Rect.unit (s := S2304x1024) ![2176, 0] ![128, 1024] inb_S2304x1024_S128x1024_2176_0, w0⟩, ⟨Rect.unit (s := S2304x1024) ![0, 0] ![128, 1024] inb_S2304x1024_S128x1024_0_0, w1⟩, ⟨Rect.unit (s := S2304x1024) ![128, 896] ![2048, 128] inb_S2304x1024_S2048x128_128_896, w2⟩, ⟨Rect.unit (s := S2304x1024) ![128, 768] ![2048, 128] inb_S2304x1024_S2048x128_128_768, w3⟩, ⟨Rect.unit (s := S2304x1024) ![128, 640] ![2048, 128] inb_S2304x1024_S2048x128_128_640, w4⟩, ⟨Rect.unit (s := S2304x1024) ![128, 512] ![2048, 128] inb_S2304x1024_S2048x128_128_512, w5⟩, ⟨Rect.unit (s := S2304x1024) ![128, 384] ![2048, 128] inb_S2304x1024_S2048x128_128_384, w6⟩, ⟨Rect.unit (s := S2304x1024) ![128, 256] ![2048, 128] inb_S2304x1024_S2048x128_128_256, w7⟩, ⟨Rect.unit (s := S2304x1024) ![128, 128] ![2048, 128] inb_S2304x1024_S2048x128_128_128, w8⟩, ⟨Rect.unit (s := S2304x1024) ![128, 0] ![2048, 128] inb_S2304x1024_S2048x128_128_0, w9⟩] ?_ y ?_
  · simp only [List.mem_cons, List.not_mem_nil, or_false, forall_eq_or_imp, forall_eq]
    exact ⟨h0, h1, h2, h3, h4, h5, h6, h7, h8, h9⟩
  · have keyZ : ∀ (o : ℕ) (inb : ∀ a, (![o, 0] : Fin 2 → ℕ) a + (![128, 1024] : Fin 2 → ℕ) a ≤ S2304x1024.size a), o ≤ (y 0).val →
        (y 0).val < o + 128 → y ∈ (Rect.unit (s := S2304x1024) ![o, 0] ![128, 1024] inb).set := fun o inb e e' =>
      Rect.mem_set_unit.mpr fun a => match a with
        | ⟨0, _⟩ => ⟨e, e'⟩
        | ⟨1, _⟩ => ⟨show 0 ≤ (y 1).val by omega, show (y 1).val < 0 + 1024 by omega⟩
    have keyH : ∀ (o : ℕ) (inb : ∀ a, (![128, o] : Fin 2 → ℕ) a + (![2048, 128] : Fin 2 → ℕ) a ≤ S2304x1024.size a), 128 ≤ (y 0).val →
        (y 0).val < 2176 → o ≤ (y 1).val → (y 1).val < o + 128 → y ∈ (Rect.unit (s := S2304x1024) ![128, o] ![2048, 128] inb).set :=
      fun o inb e0 e0' e e' => Rect.mem_set_unit.mpr fun a => match a with
        | ⟨0, _⟩ => ⟨e0, show (y 0).val < 128 + 2048 by omega⟩
        | ⟨1, _⟩ => ⟨e, e'⟩
    rcases Nat.lt_or_ge (y 0).val 128 with c0 | c0
    · exact ⟨_, (List.mem_cons_of_mem _ List.mem_cons_self), keyZ 0 inb_S2304x1024_S128x1024_0_0 (Nat.zero_le _) (by omega)⟩
    rcases Nat.lt_or_ge (y 0).val 2176 with c1 | c1
    · obtain e | e | e | e | e | e | e | e : (y 1).val / 128 = 0 ∨ (y 1).val / 128 = 1 ∨ (y 1).val / 128 = 2 ∨ (y 1).val / 128 = 3
        ∨ (y 1).val / 128 = 4 ∨ (y 1).val / 128 = 5 ∨ (y 1).val / 128 = 6 ∨ (y 1).val / 128 = 7 := by omega
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), keyH 0 inb_S2304x1024_S2048x128_128_0 c0 c1 (by omega) (by omega)⟩
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), keyH 128 inb_S2304x1024_S2048x128_128_128 c0 c1 (by omega) (by omega)⟩
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), keyH 256 inb_S2304x1024_S2048x128_128_256 c0 c1 (by omega) (by omega)⟩
      · exact ⟨_, (List.mem_cons_of_mem _ (List.mem_cons_of_mem _ (List.mem_cons_of_mem _ (List.mem_cons_of_mem _ (List.mem_cons_of_mem _ (List.mem_cons_of_mem _ List.mem_cons_self)))))), keyH 384 inb_S2304x1024_S2048x128_128_384 c0 c1 (by omega) (by omega)⟩
      · exact ⟨_, (List.mem_cons_of_mem _ (List.mem_cons_of_mem _ (List.mem_cons_of_mem _ (List.mem_cons_of_mem _ (List.mem_cons_of_mem _ List.mem_cons_self))))), keyH 512 inb_S2304x1024_S2048x128_128_512 c0 c1 (by omega) (by omega)⟩
      · exact ⟨_, (List.mem_cons_of_mem _ (List.mem_cons_of_mem _ (List.mem_cons_of_mem _ (List.mem_cons_of_mem _ List.mem_cons_self)))), keyH 640 inb_S2304x1024_S2048x128_128_640 c0 c1 (by omega) (by omega)⟩
      · exact ⟨_, (List.mem_cons_of_mem _ (List.mem_cons_of_mem _ (List.mem_cons_of_mem _ List.mem_cons_self))), keyH 768 inb_S2304x1024_S2048x128_128_768 c0 c1 (by omega) (by omega)⟩
      · exact ⟨_, (List.mem_cons_of_mem _ (List.mem_cons_of_mem _ List.mem_cons_self)), keyH 896 inb_S2304x1024_S2048x128_128_896 c0 c1 (by omega) (by omega)⟩
    · exact ⟨_, List.mem_cons_self, keyZ 2176 inb_S2304x1024_S128x1024_2176_0 c1 (by omega)⟩

end Cert.KernelIdeal.Halo

end
-- ==== Proof.Steps.lean ====
/-
  The kernel's exchange with its neighbours, step by step: the two signals, the two barrier waits, the two pairs of
  remote copies and the two groups of four waits, each under its condition, as functions of the program that follows.
-/
module

public import proofs.«01_k».proof.Proof.Basic
public import Idealize.ShloMosaic.Lib.Writes
public import Idealize.ShloMosaic.Lib.Pipeline.Value

@[expose] public section

set_option maxRecDepth 16384

noncomputable section

namespace Cert.KernelIdeal.Halo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- "There is a left neighbour" and "there is a right neighbour", as the kernel's words. -/
abbrev wl (c : Dev nD) : BitVec 1 := Scalar.cmpi .sgt (Scalar.remsi (Scalar.divsi (Dev.word c) 1#32) 4#32) 0#32
abbrev wr (c : Dev nD) : BitVec 1 := Scalar.cmpi .slt (Scalar.remsi (Scalar.divsi (Dev.word c) 1#32) 4#32) 3#32

/-- The two barrier signals. -/
def sigL (c : Dev nD) {α : Type} (p : Prog (TpuEff nD τ sig (Elt F) Λ₀ .tc) α) : Prog (TpuEff nD τ sig (Elt F) Λ₀ .tc) α :=
  if h : k0_cond1 c = 1#1 then semSignalWord (⟨k0_dev1 c, k0_dev1_lt c h⟩ : Dev nD) barS 1#32 >>= fun _ => p else p
def sigR (c : Dev nD) {α : Type} (p : Prog (TpuEff nD τ sig (Elt F) Λ₀ .tc) α) : Prog (TpuEff nD τ sig (Elt F) Λ₀ .tc) α :=
  if h : k0_cond2 c = 1#1 then semSignalWord (⟨k0_dev2 c, k0_dev2_lt c h⟩ : Dev nD) barS 1#32 >>= fun _ => p else p
/-- The barrier wait for the left neighbour's signal, and for the right one's. -/
def barW (w : BitVec 1) {α : Type} (p : Prog (TpuEff nD τ sig (Elt F) Λ₀ .tc) α) : Prog (TpuEff nD τ sig (Elt F) Λ₀ .tc) α :=
  if h : Scalar.cmpi .ne (Scalar.extui w : BitVec 32) 0#32 = 1#1 then semWaitWord barS 1#32 >>= fun _ => p else p

/-- One remote copy: rows 2048.. of a buffer to rows 0.. of the neighbour's. -/
def sendRK (c : Dev nD) (h : k0_cond5 c = 1#1) : TpuEff nD τ sig (Elt F) Λ₀ .tc Unit :=
  .enqueueDma (kbM.slice (Rect.unit (s := S2304x1024) ![2048, 0] S128x1024.size inb_S2304x1024_S128x1024_2048_0) (fun _ => rfl)) (.remote (Dev.tc (⟨k0_dev3 c, k0_dev3_lt c h⟩ : Dev nD)) (kbM.slice (Rect.unit (s := S2304x1024) ![0, 0] S128x1024.size inb_S2304x1024_S128x1024_0_0) (fun _ => rfl)) (.dma ((sendS.slice (Rect.unit (s := S4) ![0] S1.size inb_S4_S1_0)).squeeze S_ squeezes_S1_S_).sem)) (.dma ((recvS.slice (Rect.unit (s := S4) ![0] S1.size inb_S4_S1_0)).squeeze S_ squeezes_S1_S_).sem)
    ((Memref.isWhole_whole _ : Memref.IsWhole kbM).wordExact_slice rfl _ wordsbf16_S2304x1024_S128x1024_2048_0) ((Memref.isWhole_whole _ : Memref.IsWhole kbM).wordExact_slice rfl _ wordsbf16_S2304x1024_S128x1024_0_0) ⟨⟨rfl, Or.inl rfl⟩, trivial⟩

/-- One remote copy: rows 2048.. of a buffer to rows 0.. of the neighbour's. -/
def sendRV (c : Dev nD) (h : k0_cond5 c = 1#1) : TpuEff nD τ sig (Elt F) Λ₀ .tc Unit :=
  .enqueueDma (vbM.slice (Rect.unit (s := S2304x1024) ![2048, 0] S128x1024.size inb_S2304x1024_S128x1024_2048_0) (fun _ => rfl)) (.remote (Dev.tc (⟨k0_dev4 c, k0_dev4_lt c h⟩ : Dev nD)) (vbM.slice (Rect.unit (s := S2304x1024) ![0, 0] S128x1024.size inb_S2304x1024_S128x1024_0_0) (fun _ => rfl)) (.dma ((sendS.slice (Rect.unit (s := S4) ![1] S1.size inb_S4_S1_1)).squeeze S_ squeezes_S1_S_).sem)) (.dma ((recvS.slice (Rect.unit (s := S4) ![1] S1.size inb_S4_S1_1)).squeeze S_ squeezes_S1_S_).sem)
    ((Memref.isWhole_whole _ : Memref.IsWhole vbM).wordExact_slice rfl _ wordsbf16_S2304x1024_S128x1024_2048_0) ((Memref.isWhole_whole _ : Memref.IsWhole vbM).wordExact_slice rfl _ wordsbf16_S2304x1024_S128x1024_0_0) ⟨⟨rfl, Or.inl rfl⟩, trivial⟩

/-- One remote copy: rows 128.. of a buffer to rows 2176.. of the neighbour's. -/
def sendLK (c : Dev nD) (h : k0_cond6 c = 1#1) : TpuEff nD τ sig (Elt F) Λ₀ .tc Unit :=
  .enqueueDma (kbM.slice (Rect.unit (s := S2304x1024) ![128, 0] S128x1024.size inb_S2304x1024_S128x1024_128_0) (fun _ => rfl)) (.remote (Dev.tc (⟨k0_dev5 c, k0_dev5_lt c h⟩ : Dev nD)) (kbM.slice (Rect.unit (s := S2304x1024) ![2176, 0] S128x1024.size inb_S2304x1024_S128x1024_2176_0) (fun _ => rfl)) (.dma ((sendS.slice (Rect.unit (s := S4) ![2] S1.size inb_S4_S1_2)).squeeze S_ squeezes_S1_S_).sem)) (.dma ((recvS.slice (Rect.unit (s := S4) ![2] S1.size inb_S4_S1_2)).squeeze S_ squeezes_S1_S_).sem)
    ((Memref.isWhole_whole _ : Memref.IsWhole kbM).wordExact_slice rfl _ wordsbf16_S2304x1024_S128x1024_128_0) ((Memref.isWhole_whole _ : Memref.IsWhole kbM).wordExact_slice rfl _ wordsbf16_S2304x1024_S128x1024_2176_0) ⟨⟨rfl, Or.inl rfl⟩, trivial⟩

/-- One remote copy: rows 128.. of a buffer to rows 2176.. of the neighbour's. -/
def sendLV (c : Dev nD) (h : k0_cond6 c = 1#1) : TpuEff nD τ sig (Elt F) Λ₀ .tc Unit :=
  .enqueueDma (vbM.slice (Rect.unit (s := S2304x1024) ![128, 0] S128x1024.size inb_S2304x1024_S128x1024_128_0) (fun _ => rfl)) (.remote (Dev.tc (⟨k0_dev6 c, k0_dev6_lt c h⟩ : Dev nD)) (vbM.slice (Rect.unit (s := S2304x1024) ![2176, 0] S128x1024.size inb_S2304x1024_S128x1024_2176_0) (fun _ => rfl)) (.dma ((sendS.slice (Rect.unit (s := S4) ![3] S1.size inb_S4_S1_3)).squeeze S_ squeezes_S1_S_).sem)) (.dma ((recvS.slice (Rect.unit (s := S4) ![3] S1.size inb_S4_S1_3)).squeeze S_ squeezes_S1_S_).sem)
    ((Memref.isWhole_whole _ : Memref.IsWhole vbM).wordExact_slice rfl _ wordsbf16_S2304x1024_S128x1024_128_0) ((Memref.isWhole_whole _ : Memref.IsWhole vbM).wordExact_slice rfl _ wordsbf16_S2304x1024_S128x1024_2176_0) ⟨⟨rfl, Or.inl rfl⟩, trivial⟩

/-- The wait of one copy into rows 0.., by its size. -/
def recvLK : TpuEff nD τ sig (Elt F) Λ₀ .tc Unit :=
  .waitDma2 ((recvS.slice (Rect.unit (s := S4) ![0] S1.size inb_S4_S1_0)).squeeze S_ squeezes_S1_S_).sem (kbM.slice (Rect.unit (s := S2304x1024) ![2048, 0] S128x1024.size inb_S2304x1024_S128x1024_2048_0) (fun _ => rfl)) (kbM.slice (Rect.unit (s := S2304x1024) ![0, 0] S128x1024.size inb_S2304x1024_S128x1024_0_0) (fun _ => rfl)) ((Memref.isWhole_whole _ : Memref.IsWhole kbM).wordExact_slice rfl _ wordsbf16_S2304x1024_S128x1024_2048_0) ((Memref.isWhole_whole _ : Memref.IsWhole kbM).wordExact_slice rfl _ wordsbf16_S2304x1024_S128x1024_0_0)

/-- The wait of one copy into rows 0.., by its size. -/
def recvLV : TpuEff nD τ sig (Elt F) Λ₀ .tc Unit :=
  .waitDma2 ((recvS.slice (Rect.unit (s := S4) ![1] S1.size inb_S4_S1_1)).squeeze S_ squeezes_S1_S_).sem (vbM.slice (Rect.unit (s := S2304x1024) ![2048, 0] S128x1024.size inb_S2304x1024_S128x1024_2048_0) (fun _ => rfl)) (vbM.slice (Rect.unit (s := S2304x1024) ![0, 0] S128x1024.size inb_S2304x1024_S128x1024_0_0) (fun _ => rfl)) ((Memref.isWhole_whole _ : Memref.IsWhole vbM).wordExact_slice rfl _ wordsbf16_S2304x1024_S128x1024_2048_0) ((Memref.isWhole_whole _ : Memref.IsWhole vbM).wordExact_slice rfl _ wordsbf16_S2304x1024_S128x1024_0_0)

/-- The wait of one copy into rows 2176.., by its size. -/
def recvRK : TpuEff nD τ sig (Elt F) Λ₀ .tc Unit :=
  .waitDma2 ((recvS.slice (Rect.unit (s := S4) ![2] S1.size inb_S4_S1_2)).squeeze S_ squeezes_S1_S_).sem (kbM.slice (Rect.unit (s := S2304x1024) ![128, 0] S128x1024.size inb_S2304x1024_S128x1024_128_0) (fun _ => rfl)) (kbM.slice (Rect.unit (s := S2304x1024) ![2176, 0] S128x1024.size inb_S2304x1024_S128x1024_2176_0) (fun _ => rfl)) ((Memref.isWhole_whole _ : Memref.IsWhole kbM).wordExact_slice rfl _ wordsbf16_S2304x1024_S128x1024_128_0) ((Memref.isWhole_whole _ : Memref.IsWhole kbM).wordExact_slice rfl _ wordsbf16_S2304x1024_S128x1024_2176_0)

/-- The wait of one copy into rows 2176.., by its size. -/
def recvRV : TpuEff nD τ sig (Elt F) Λ₀ .tc Unit :=
  .waitDma2 ((recvS.slice (Rect.unit (s := S4) ![3] S1.size inb_S4_S1_3)).squeeze S_ squeezes_S1_S_).sem (vbM.slice (Rect.unit (s := S2304x1024) ![128, 0] S128x1024.size inb_S2304x1024_S128x1024_128_0) (fun _ => rfl)) (vbM.slice (Rect.unit (s := S2304x1024) ![2176, 0] S128x1024.size inb_S2304x1024_S128x1024_2176_0) (fun _ => rfl)) ((Memref.isWhole_whole _ : Memref.IsWhole vbM).wordExact_slice rfl _ wordsbf16_S2304x1024_S128x1024_128_0) ((Memref.isWhole_whole _ : Memref.IsWhole vbM).wordExact_slice rfl _ wordsbf16_S2304x1024_S128x1024_2176_0)

/-- The wait of one copy into rows 2048.., by its size. -/
def doneRK : TpuEff nD τ sig (Elt F) Λ₀ .tc Unit :=
  .waitDma2 ((sendS.slice (Rect.unit (s := S4) ![0] S1.size inb_S4_S1_0)).squeeze S_ squeezes_S1_S_).sem (kbM.slice (Rect.unit (s := S2304x1024) ![0, 0] S128x1024.size inb_S2304x1024_S128x1024_0_0) (fun _ => rfl)) (kbM.slice (Rect.unit (s := S2304x1024) ![2048, 0] S128x1024.size inb_S2304x1024_S128x1024_2048_0) (fun _ => rfl)) ((Memref.isWhole_whole _ : Memref.IsWhole kbM).wordExact_slice rfl _ wordsbf16_S2304x1024_S128x1024_0_0) ((Memref.isWhole_whole _ : Memref.IsWhole kbM).wordExact_slice rfl _ wordsbf16_S2304x1024_S128x1024_2048_0)

/-- The wait of one copy into rows 2048.., by its size. -/
def doneRV : TpuEff nD τ sig (Elt F) Λ₀ .tc Unit :=
  .waitDma2 ((sendS.slice (Rect.unit (s := S4) ![1] S1.size inb_S4_S1_1)).squeeze S_ squeezes_S1_S_).sem (vbM.slice (Rect.unit (s := S2304x1024) ![0, 0] S128x1024.size inb_S2304x1024_S128x1024_0_0) (fun _ => rfl)) (vbM.slice (Rect.unit (s := S2304x1024) ![2048, 0] S128x1024.size inb_S2304x1024_S128x1024_2048_0) (fun _ => rfl)) ((Memref.isWhole_whole _ : Memref.IsWhole vbM).wordExact_slice rfl _ wordsbf16_S2304x1024_S128x1024_0_0) ((Memref.isWhole_whole _ : Memref.IsWhole vbM).wordExact_slice rfl _ wordsbf16_S2304x1024_S128x1024_2048_0)

/-- The wait of one copy into rows 128.., by its size. -/
def doneLK : TpuEff nD τ sig (Elt F) Λ₀ .tc Unit :=
  .waitDma2 ((sendS.slice (Rect.unit (s := S4) ![2] S1.size inb_S4_S1_2)).squeeze S_ squeezes_S1_S_).sem (kbM.slice (Rect.unit (s := S2304x1024) ![2176, 0] S128x1024.size inb_S2304x1024_S128x1024_2176_0) (fun _ => rfl)) (kbM.slice (Rect.unit (s := S2304x1024) ![128, 0] S128x1024.size inb_S2304x1024_S128x1024_128_0) (fun _ => rfl)) ((Memref.isWhole_whole _ : Memref.IsWhole kbM).wordExact_slice rfl _ wordsbf16_S2304x1024_S128x1024_2176_0) ((Memref.isWhole_whole _ : Memref.IsWhole kbM).wordExact_slice rfl _ wordsbf16_S2304x1024_S128x1024_128_0)

/-- The wait of one copy into rows 128.., by its size. -/
def doneLV : TpuEff nD τ sig (Elt F) Λ₀ .tc Unit :=
  .waitDma2 ((sendS.slice (Rect.unit (s := S4) ![3] S1.size inb_S4_S1_3)).squeeze S_ squeezes_S1_S_).sem (vbM.slice (Rect.unit (s := S2304x1024) ![2176, 0] S128x1024.size inb_S2304x1024_S128x1024_2176_0) (fun _ => rfl)) (vbM.slice (Rect.unit (s := S2304x1024) ![128, 0] S128x1024.size inb_S2304x1024_S128x1024_128_0) (fun _ => rfl)) ((Memref.isWhole_whole _ : Memref.IsWhole vbM).wordExact_slice rfl _ wordsbf16_S2304x1024_S128x1024_2176_0) ((Memref.isWhole_whole _ : Memref.IsWhole vbM).wordExact_slice rfl _ wordsbf16_S2304x1024_S128x1024_128_0)

/-- The remote copies to the right and to the left. -/
def sendsR (c : Dev nD) {α : Type} (p : Prog (TpuEff nD τ sig (Elt F) Λ₀ .tc) α) : Prog (TpuEff nD τ sig (Elt F) Λ₀ .tc) α :=
  if h : k0_cond5 c = 1#1 then Prog.lift (sendRK c h) >>= fun _ => Prog.lift (sendRV c h) >>= fun _ => p else p
def sendsL (c : Dev nD) {α : Type} (p : Prog (TpuEff nD τ sig (Elt F) Λ₀ .tc) α) : Prog (TpuEff nD τ sig (Elt F) Λ₀ .tc) α :=
  if h : k0_cond6 c = 1#1 then Prog.lift (sendLK c h) >>= fun _ => Prog.lift (sendLV c h) >>= fun _ => p else p
/-- The waits for what comes from the left (and for the copies sent there), then the same for the right. -/
def waitsL (w : BitVec 1) {α : Type} (p : Prog (TpuEff nD τ sig (Elt F) Λ₀ .tc) α) : Prog (TpuEff nD τ sig (Elt F) Λ₀ .tc) α :=
  if h : Scalar.cmpi .ne (Scalar.extui w : BitVec 32) 0#32 = 1#1 then
    Prog.lift recvLK >>= fun _ => Prog.lift recvLV >>= fun _ => Prog.lift doneLK >>= fun _ => Prog.lift doneLV >>= fun _ => p else p
def waitsR (w : BitVec 1) {α : Type} (p : Prog (TpuEff nD τ sig (Elt F) Λ₀ .tc) α) : Prog (TpuEff nD τ sig (Elt F) Λ₀ .tc) α :=
  if h : Scalar.cmpi .ne (Scalar.extui w : BitVec 32) 0#32 = 1#1 then
    Prog.lift recvRK >>= fun _ => Prog.lift recvRV >>= fun _ => Prog.lift doneRK >>= fun _ => Prog.lift doneRV >>= fun _ => p else p

/-- The end of the straight part: barrier and copies to the right. -/
def tail17 (c : Dev nD) (v3 v4 : BitVec 1) : Prog (TpuEff nD τ sig (Elt F) Λ₀ .tc) (BitVec 32) :=
  sigL c (sigR c (barW v3 (barW v4 (sendsR c (Pure.pure (Scalar.extui v3))))))

/-- The copies to the left, the loop, the waits. -/
theorem part18_eq (c : Dev nD) (v2 : BitVec 32) (v3 v4 : BitVec 1) (v6 v8 v340 : BitVec 32) :
    k0_part18_skel (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS c v2 v3 v4 v6 v8 v340
      = sendsL c (Scf.Loop.for k0_t1_loop k0_t1_ok ⟨⟩ (k0_t1_body xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS c v2 v3 v4 v6 v8 v340 (iota .tc S1x512 32 [1] iota_S1x512_d1_w32))
          >>= fun _ => waitsL v3 (waitsR v4 (Pure.pure ⟨k0_pay36 (F := F), iota .tc S1x512 32 [1] iota_S1x512_d1_w32, k0_pay39 v2⟩))) := rfl

end Cert.KernelIdeal.Halo

end
-- ==== Proof.PhaseA.lean ====
/-
  The straight part of the kernel: the sixteen local copies of `k` and `v` into the staging buffers, the scaled query
  projection, the eight heads' rows stored into the extended buffers, and the two halos zeroed.
-/
module

public import proofs.«01_k».proof.Proof.Basic
public import Idealize.ShloMosaic.Lib.Writes
public import Idealize.ShloMosaic.Lib.Pipeline.Value
public import Idealize.ShloMosaic.Lib.VecWindow
public import proofs.«01_k».proof.Proof.Stage
public import proofs.«01_k».proof.Proof.Steps
public import Idealize.ShloMosaic.Lib.Exec

@[expose] public section

set_option maxRecDepth 16384

noncomputable section

namespace Cert.KernelIdeal.Halo

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The sixteen counters of the local copies, at zero. -/
abbrev copySems (c : Dev nD) : sProp 𝕄 := iprop(semVal ((c : Thread nD τ), .dma 4) 0 ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 9) 0 ∗ semVal ((c : Thread nD τ), .dma 10) 0 ∗ semVal ((c : Thread nD τ), .dma 11) 0 ∗ semVal ((c : Thread nD τ), .dma 12) 0 ∗ semVal ((c : Thread nD τ), .dma 13) 0 ∗ semVal ((c : Thread nD τ), .dma 14) 0 ∗ semVal ((c : Thread nD τ), .dma 15) 0 ∗ semVal ((c : Thread nD τ), .dma 16) 0 ∗ semVal ((c : Thread nD τ), .dma 17) 0 ∗ semVal ((c : Thread nD τ), .dma 18) 0 ∗ semVal ((c : Thread nD τ), .dma 19) 0)

/-- What the straight part is run from. -/
abbrev preA (c : Dev nD) (x : Vec F S1x2048x1024 .f32) (wq wo : Vec F S1024x1024 .f32) (k v : Vec F S1x2048x8x128 .f32) : sProp 𝕄 :=
  iprop(pt c xM x ∗ pt c wqM wq ∗ pt c woM wo ∗ pt c kM k ∗ pt c vM v ∗ (∃ f, pt c kbM f) ∗ (∃ f, pt c vbM f) ∗ (∃ f, pt c qbM f)
    ∗ (∃ f, pt c wobM f) ∗ (∃ f, pt c kstM f) ∗ (∃ f, pt c vstM f) ∗ copySems c)

/-- What the straight part leaves: the extended buffers at the device's own rows, the scaled queries, the rounded `Wo`. -/
abbrev postA (c : Dev nD) (x : Vec F S1x2048x1024 .f32) (wq wo : Vec F S1024x1024 .f32) (k v : Vec F S1x2048x8x128 .f32) : sProp 𝕄 :=
  iprop(pt c xM x ∗ pt c wqM wq ∗ pt c woM wo ∗ pt c kM k ∗ pt c vM v ∗ pt c kbM (extOwn k) ∗ pt c vbM (extOwn v)
    ∗ pt c qbM (k0_pay11 x wq) ∗ pt c wobM (k0_pay12 wo) ∗ (∃ f, pt c kstM f) ∗ (∃ f, pt c vstM f) ∗ copySems c)

/-- One head's piece, loaded from a staging buffer that holds the copies of `k`. -/
theorem head_of (h : ℕ) (inb : ∀ a, (![h, 0, 0] : Fin 3 → ℕ) a + S1x2048x128.size a ≤ S8x2048x128.size a)
    (o : ℕ) (ho : o = 128 * h) (inb' : ∀ a, (![128, o] : Fin 2 → ℕ) a + (![2048, 128] : Fin 2 → ℕ) a ≤ S2304x1024.size a)
    (k : Vec F S1x2048x8x128 .f32) (M : Memref sig .tc .vmem S8x2048x128 .f32) (X : M.view.ty.Contents (Elt F))
    (hX : M.view.read (Elt F) X = stageOf k) (x : S2048x128.Idx) :
    k0_pay13 (M.view.readAt (Elt F) (Rect.unit (s := S8x2048x128) ![h, 0, 0] S1x2048x128.size inb).toLoadRect X) x
      = extOwn k ((Rect.unit (s := S2304x1024) ![128, o] ![2048, 128] inb').emb x) :=
  head_piece h inb o ho inb' k _ (fun y => by rw [View.readAt_apply]; exact congrFun hX _) x

/-- The whole buffer, held at contents that read as `g`, is held at `g`. -/
theorem held_kbM (c : Dev nD) {f : Buf (Elt F) (kbM.view.loc (c : Thread nD τ))} {g : Vec F S2304x1024 .bf16}
    (h : kbM.view.read (Elt F) f = g) : (kbM.view.loc (c : Thread nD τ) ↦{fullShare} f : sProp 𝕄) ⊢ pt c kbM g := by
  subst h; exact BI.Entails.refl _

/-- The whole buffer, held at contents that read as `g`, is held at `g`. -/
theorem held_vbM (c : Dev nD) {f : Buf (Elt F) (vbM.view.loc (c : Thread nD τ))} {g : Vec F S2304x1024 .bf16}
    (h : vbM.view.read (Elt F) f = g) : (vbM.view.loc (c : Thread nD τ) ↦{fullShare} f : sProp 𝕄) ⊢ pt c vbM g := by
  subst h; exact BI.Entails.refl _

/-- The whole buffer, held at contents that read as `g`, is held at `g`. -/
theorem held_qbM (c : Dev nD) {f : Buf (Elt F) (qbM.view.loc (c : Thread nD τ))} {g : Vec F S2048x1024 .bf16}
    (h : qbM.view.read (Elt F) f = g) : (qbM.view.loc (c : Thread nD τ) ↦{fullShare} f : sProp 𝕄) ⊢ pt c qbM g := by
  subst h; exact BI.Entails.refl _

/-- The whole buffer, held at contents that read as `g`, is held at `g`. -/
theorem held_wobM (c : Dev nD) {f : Buf (Elt F) (wobM.view.loc (c : Thread nD τ))} {g : Vec F S1024x1024 .bf16}
    (h : wobM.view.read (Elt F) f = g) : (wobM.view.loc (c : Thread nD τ) ↦{fullShare} f : sProp 𝕄) ⊢ pt c wobM g := by
  subst h; exact BI.Entails.refl _

/-- One store of a whole buffer, computed from whole loads. -/
theorem full_store₁ {S : Shape} {e e' : EltTy} {sp sp' : Space} (v : View sig .tc sp S e) (u : View sig .tc sp' S e') (g : (S.Idx → Elt F e') → S.Idx → Elt F e)
    {o o' : Fin S.rank → ℕ} (inb : ∀ a, o a + S.size a ≤ S.size a) (inb' : ∀ a, o' a + S.size a ≤ S.size a)
    (f : v.ty.Contents (Elt F)) (x : u.ty.Contents (Elt F)) :
    v.read (Elt F) (v.writes (Elt F) f [⟨Rect.unit (s := S) o S.size inb, g (u.readAt (Elt F) (Rect.unit (s := S) o' S.size inb').toLoadRect x)⟩])
      = g (u.read (Elt F) x) := by
  rw [View.readAt_full]
  exact View.read_writes_full v f inb _ []

/-- The same computed from two whole loads of other shapes. -/
theorem full_store₂ {S S₁ S₂ : Shape} {e e₁ e₂ : EltTy} {sp sp₁ sp₂ : Space} (v : View sig .tc sp S e) (u₁ : View sig .tc sp₁ S₁ e₁)
    (u₂ : View sig .tc sp₂ S₂ e₂) (g : (S₁.Idx → Elt F e₁) → (S₂.Idx → Elt F e₂) → S.Idx → Elt F e)
    {o : Fin S.rank → ℕ} {o₁ : Fin S₁.rank → ℕ} {o₂ : Fin S₂.rank → ℕ} (inb : ∀ a, o a + S.size a ≤ S.size a)
    (inb₁ : ∀ a, o₁ a + S₁.size a ≤ S₁.size a) (inb₂ : ∀ a, o₂ a + S₂.size a ≤ S₂.size a)
    (f : v.ty.Contents (Elt F)) (x : u₁.ty.Contents (Elt F)) (y : u₂.ty.Contents (Elt F)) :
    v.read (Elt F) (v.writes (Elt F) f [⟨Rect.unit (s := S) o S.size inb, g (u₁.readAt (Elt F) (Rect.unit (s := S₁) o₁ S₁.size inb₁).toLoadRect x)
      (u₂.readAt (Elt F) (Rect.unit (s := S₂) o₂ S₂.size inb₂).toLoadRect y)⟩]) = g (u₁.read (Elt F) x) (u₂.read (Elt F) y) := by
  rw [View.readAt_full, View.readAt_full]
  exact View.read_writes_full v f inb _ []

set_option sl_exec.dmaWindow true in
set_option maxHeartbeats 4000000 in
theorem wp_straight (c : Dev nD) (O : CellTallies nD τ sig Unit) (W : Finset (SemLoc sig × Unit)) (P : sProp 𝕄) [Persistent P]
   (hMW : ∀ q : DmaSem sig, q.val < 20 → (P ⊢ MayWait (c : Thread nD τ) (.dma q) () O))
   (x : Vec F S1x2048x1024 .f32) (wq wo : Vec F S1024x1024 .f32) (k v : Vec F S1x2048x8x128 .f32)
   (Q : _ → BitVec 32 → sProp 𝕄) :
   iprop(preA c x wq wo k v ∗ owes (c : Thread nD τ) O W ∗ P
      ∗ (postA c x wq wo k v -∗ iprop(∃ W', owes (c : Thread nD τ) O W') -∗ wp frame (wpE (defs₀ (F := F)) 𝒱₀ c none) Set.univ (tail17 c (wl c) (wr c)) (Q ⟨c, Scalar.remsi (Scalar.divsi (Dev.word c) 1#32) 4#32, wl c, wr c, Scalar.maxsi (Scalar.subi (Scalar.remsi (Scalar.divsi (Dev.word c) 1#32) 4#32) 1#32) 0#32, Scalar.minsi (Scalar.addi (Scalar.remsi (Scalar.divsi (Dev.word c) 1#32) 4#32) 1#32) 3#32⟩)))
    ⊢ wp frame (wpE (defs₀ (F := F)) 𝒱₀ c none) Set.univ (k0_part5_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun r => wp frame (wpE (defs₀ (F := F)) 𝒱₀ c none) Set.univ (k0_part6_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun _ => wp frame (wpE (defs₀ (F := F)) 𝒱₀ c none) Set.univ (k0_part7_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun _ => wp frame (wpE (defs₀ (F := F)) 𝒱₀ c none) Set.univ (k0_part8_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun _ => wp frame (wpE (defs₀ (F := F)) 𝒱₀ c none) Set.univ (k0_part9_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun _ => wp frame (wpE (defs₀ (F := F)) 𝒱₀ c none) Set.univ (k0_part10_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun _ => wp frame (wpE (defs₀ (F := F)) 𝒱₀ c none) Set.univ (k0_part11_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun v179 => wp frame (wpE (defs₀ (F := F)) 𝒱₀ c none) Set.univ (k0_part12_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v179) (fun v207 => wp frame (wpE (defs₀ (F := F)) 𝒱₀ c none) Set.univ (k0_part13_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v207) (fun _ => wp frame (wpE (defs₀ (F := F)) 𝒱₀ c none) Set.univ (k0_part14_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun _ => wp frame (wpE (defs₀ (F := F)) 𝒱₀ c none) Set.univ (k0_part15_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun _ => wp frame (wpE (defs₀ (F := F)) 𝒱₀ c none) Set.univ (k0_part16_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun v312 => wp frame (wpE (defs₀ (F := F)) 𝒱₀ c none) Set.univ (k0_part17_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS r.1 r.2.2.1 r.2.2.2.1 r.2.2.2.2.1 r.2.2.2.2.2 v312) (Q r))))))))))))) := by
  unfold k0_part5_skel k0_part6_skel k0_part7_skel k0_part8_skel k0_part9_skel k0_part10_skel k0_part11_skel k0_part12_skel k0_part13_skel k0_part14_skel k0_part15_skel k0_part16_skel k0_part17_skel
  iintro ⟨⟨Hx, Hwq, Hwo, Hk, Hv, ⟨%f0, H0⟩, ⟨%f1, H1⟩, ⟨%f2, H2⟩, ⟨%f4, H4⟩, ⟨%f5, H5⟩, ⟨%f6, H6⟩, Hq4, Hq5, Hq6, Hq7, Hq8, Hq9, Hq10, Hq11, Hq12, Hq13, Hq14, Hq15, Hq16, Hq17, Hq18, Hq19⟩, HO, #HM, HK⟩
  sl_exec
  iapply HK $$ [-HO] [HO]
  rotate_left
  · iexists _; iexact HO
  isplitl [Hx]; · iexact Hx
  isplitl [Hwq]; · iexact Hwq
  isplitl [Hwo]; · iexact Hwo
  isplitl [Hk]; · iexact Hk
  isplitl [Hv]; · iexact Hv
  isplitl [H0]
  · iapply (held_kbM c (g := extOwn k) ?hq0) $$ H0
    refine ext_all kbM f0 k _ _ _ _ _ _ _ _ _ _ ?z1 ?z0 ?a7 ?a6 ?a5 ?a4 ?a3 ?a2 ?a1 ?a0
    case z1 => exact zero_piece 2176 (.inr rfl) _ k
    case z0 => exact zero_piece 0 (.inl rfl) _ k
    case a7 => exact fun x => by sl_unfold_run_names; exact head_of 7 inb_S8x2048x128_S1x2048x128_7_0_0 896 rfl _ k kstM _ (stage_all kstM kM f5 k) x
    case a6 => exact fun x => by sl_unfold_run_names; exact head_of 6 inb_S8x2048x128_S1x2048x128_6_0_0 768 rfl _ k kstM _ (stage_all kstM kM f5 k) x
    case a5 => exact fun x => by sl_unfold_run_names; exact head_of 5 inb_S8x2048x128_S1x2048x128_5_0_0 640 rfl _ k kstM _ (stage_all kstM kM f5 k) x
    case a4 => exact fun x => by sl_unfold_run_names; exact head_of 4 inb_S8x2048x128_S1x2048x128_4_0_0 512 rfl _ k kstM _ (stage_all kstM kM f5 k) x
    case a3 => exact fun x => by sl_unfold_run_names; exact head_of 3 inb_S8x2048x128_S1x2048x128_3_0_0 384 rfl _ k kstM _ (stage_all kstM kM f5 k) x
    case a2 => exact fun x => by sl_unfold_run_names; exact head_of 2 inb_S8x2048x128_S1x2048x128_2_0_0 256 rfl _ k kstM _ (stage_all kstM kM f5 k) x
    case a1 => exact fun x => by sl_unfold_run_names; exact head_of 1 inb_S8x2048x128_S1x2048x128_1_0_0 128 rfl _ k kstM _ (stage_all kstM kM f5 k) x
    case a0 => exact fun x => by sl_unfold_run_names; exact head_of 0 inb_S8x2048x128_S1x2048x128_0_0_0 0 rfl _ k kstM _ (stage_all kstM kM f5 k) x
  isplitl [H1]
  · iapply (held_vbM c (g := extOwn v) ?hq1) $$ H1
    refine ext_all vbM f1 v _ _ _ _ _ _ _ _ _ _ ?z1v ?z0v ?a7v ?a6v ?a5v ?a4v ?a3v ?a2v ?a1v ?a0v
    case z1v => exact zero_piece 2176 (.inr rfl) _ v
    case z0v => exact zero_piece 0 (.inl rfl) _ v
    case a7v => exact fun x => by sl_unfold_run_names; exact head_of 7 inb_S8x2048x128_S1x2048x128_7_0_0 896 rfl _ v vstM _ (stage_all vstM vM f6 v) x
    case a6v => exact fun x => by sl_unfold_run_names; exact head_of 6 inb_S8x2048x128_S1x2048x128_6_0_0 768 rfl _ v vstM _ (stage_all vstM vM f6 v) x
    case a5v => exact fun x => by sl_unfold_run_names; exact head_of 5 inb_S8x2048x128_S1x2048x128_5_0_0 640 rfl _ v vstM _ (stage_all vstM vM f6 v) x
    case a4v => exact fun x => by sl_unfold_run_names; exact head_of 4 inb_S8x2048x128_S1x2048x128_4_0_0 512 rfl _ v vstM _ (stage_all vstM vM f6 v) x
    case a3v => exact fun x => by sl_unfold_run_names; exact head_of 3 inb_S8x2048x128_S1x2048x128_3_0_0 384 rfl _ v vstM _ (stage_all vstM vM f6 v) x
    case a2v => exact fun x => by sl_unfold_run_names; exact head_of 2 inb_S8x2048x128_S1x2048x128_2_0_0 256 rfl _ v vstM _ (stage_all vstM vM f6 v) x
    case a1v => exact fun x => by sl_unfold_run_names; exact head_of 1 inb_S8x2048x128_S1x2048x128_1_0_0 128 rfl _ v vstM _ (stage_all vstM vM f6 v) x
    case a0v => exact fun x => by sl_unfold_run_names; exact head_of 0 inb_S8x2048x128_S1x2048x128_0_0_0 0 rfl _ v vstM _ (stage_all vstM vM f6 v) x
  isplitl [H2]
  · iapply (held_qbM c (g := k0_pay11 x wq) ?hq2) $$ H2
    exact full_store₂ qbM.view xM.view wqM.view k0_pay11 inb_S2048x1024_S2048x1024_0_0 inb_S1x2048x1024_S1x2048x1024_0_0_0 inb_S1024x1024_S1024x1024_0_0 f2 x wq
  isplitl [H4]
  · iapply (held_wobM c (g := k0_pay12 wo) ?hq3) $$ H4
    exact full_store₁ wobM.view woM.view k0_pay12 inb_S1024x1024_S1024x1024_0_0 inb_S1024x1024_S1024x1024_0_0 f4 wo
  isplitl [H5]; · iexists _; iexact H5
  isplitl [H6]; · iexists _; iexact H6
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  iexact Hq19

end Cert.KernelIdeal.Halo

end
-- ==== Proof.Common.lean ====
/-
  The halo exchange as a protocol: who the neighbours are, the nine semaphores of each device that take part, what each
  unit of credit hands over (with contents), what each device owes at the start, and the levels that order the waits.

  Device `c` has a left neighbour (`hasL c`) unless it is the first, a right one (`hasR c`) unless it is the last.
  * Its barrier semaphore is signalled once by each neighbour; the signal hands over the halo rows of the signaller
    that face `c`: from the left neighbour its rows 2176.., from the right one its rows 0.. .
  * Its receive semaphores 0, 1 (k, v) are credited by the left neighbour's copies into rows 0.., 2, 3 by the right
    neighbour's copies into rows 2176..; the credit hands over these rows with the neighbour's rows in them.
  * Its send semaphores 0, 1 are credited by its own copies to the right (source rows 2048..), 2, 3 by those to the left
    (source rows 128..); the credit hands the source rows back.
-/
module

public import proofs.«01_k».proof.Proof.Steps

@[expose] public section

set_option maxRecDepth 16384

noncomputable section

namespace Cert.KernelIdeal.Halo

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The neighbours -/

abbrev hasL (c : Dev nD) : Prop := 0 < c.val
abbrev hasR (c : Dev nD) : Prop := c.val < 3

/-- The next and the previous device, around the four. -/
def nxt (c : Dev nD) : Dev nD := ⟨(c.val + 1) % 4, Nat.mod_lt _ (by decide)⟩
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem hasL_nxt (c : Dev nD) : hasL (nxt c) ↔ hasR c := by revert c; decide
theorem hasR_prv (c : Dev nD) : hasR (prv c) ↔ hasL c := by revert c; decide
def ring : Dev nD ≃ Dev nD := ⟨nxt, prv, prv_nxt, nxt_prv⟩

theorem cond1_iff (c : Dev nD) : k0_cond1 c = 1#1 ↔ hasL c := by revert c; decide
theorem cond2_iff (c : Dev nD) : k0_cond2 c = 1#1 ↔ hasR c := by revert c; decide
theorem cond5_iff (c : Dev nD) : k0_cond5 c = 1#1 ↔ hasR c := by revert c; decide
theorem cond6_iff (c : Dev nD) : k0_cond6 c = 1#1 ↔ hasL c := by revert c; decide
theorem wl_iff (c : Dev nD) : Scalar.cmpi .ne (Scalar.extui (wl c) : BitVec 32) 0#32 = 1#1 ↔ hasL c := by revert c; decide
theorem wr_iff (c : Dev nD) : Scalar.cmpi .ne (Scalar.extui (wr c) : BitVec 32) 0#32 = 1#1 ↔ hasR c := by revert c; decide

theorem dev1_eq (c : Dev nD) (h : k0_cond1 c = 1#1) : (⟨k0_dev1 c, k0_dev1_lt c h⟩ : Dev nD) = prv c :=
  Fin.ext ((by decide : ∀ c : Dev nD, k0_cond1 c = 1#1 → k0_dev1 c = (prv c).val) c h)
theorem dev2_eq (c : Dev nD) (h : k0_cond2 c = 1#1) : (⟨k0_dev2 c, k0_dev2_lt c h⟩ : Dev nD) = nxt c :=
  Fin.ext ((by decide : ∀ c : Dev nD, k0_cond2 c = 1#1 → k0_dev2 c = (nxt c).val) c h)
theorem dev3_eq (c : Dev nD) (h : k0_cond5 c = 1#1) : (⟨k0_dev3 c, k0_dev3_lt c h⟩ : Dev nD) = nxt c :=
  Fin.ext ((by decide : ∀ c : Dev nD, k0_cond5 c = 1#1 → k0_dev3 c = (nxt c).val) c h)
theorem dev4_eq (c : Dev nD) (h : k0_cond5 c = 1#1) : (⟨k0_dev4 c, k0_dev4_lt c h⟩ : Dev nD) = nxt c :=
  Fin.ext ((by decide : ∀ c : Dev nD, k0_cond5 c = 1#1 → k0_dev4 c = (nxt c).val) c h)
theorem dev5_eq (c : Dev nD) (h : k0_cond6 c = 1#1) : (⟨k0_dev5 c, k0_dev5_lt c h⟩ : Dev nD) = prv c :=
  Fin.ext ((by decide : ∀ c : Dev nD, k0_cond6 c = 1#1 → k0_dev5 c = (prv c).val) c h)
theorem dev6_eq (c : Dev nD) (h : k0_cond6 c = 1#1) : (⟨k0_dev6 c, k0_dev6_lt c h⟩ : Dev nD) = prv c :=
  Fin.ext ((by decide : ∀ c : Dev nD, k0_cond6 c = 1#1 → k0_dev6 c = (prv c).val) c h)

/-! ## The cells -/

/-- The nine semaphores: the barrier; the four send semaphores; the four receive semaphores. -/
abbrev csem : Fin 9 → SemLoc sig
  | 0 => .reg barS
  | 1 => .dma ⟨20, by decide⟩ | 2 => .dma ⟨21, by decide⟩ | 3 => .dma ⟨22, by decide⟩ | 4 => .dma ⟨23, by decide⟩
  | 5 => .dma ⟨24, by decide⟩ | 6 => .dma ⟨25, by decide⟩ | 7 => .dma ⟨26, by decide⟩ | 8 => .dma ⟨27, by decide⟩
abbrev kcell (cj : Dev nD × Fin 9) : GSem nD τ sig := ((cj.1 : Thread nD τ), csem cj.2)

theorem csem_injective : Function.Injective csem := by decide

theorem kcell_injective : Function.Injective (kcell : Dev nD × Fin 9 → GSem nD τ sig) := by
  rintro ⟨c, j⟩ ⟨c', j'⟩ h
  have h1 : c = c' := congrArg (fun g : GSem nD τ sig => g.1.1) h
  have h2 : j = j' := csem_injective (congrArg Prod.snd h)
  rw [h1, h2]

/-- What one of the remote copies credits: 128 rows of bf16. -/
abbrev N : ℕ := (kbM.slice (Rect.unit (s := S2304x1024) ![0, 0] S128x1024.size inb_S2304x1024_S128x1024_0_0) (fun _ => rfl)).view.dmaCredit
theorem N_pos : 0 < N := View.dmaCredit_pos _ (by decide)

/-! ## Rows of the extended buffers -/

/-- The elements of rows `lo` to `hi` (excluded). -/
def rows (lo hi : ℕ) : Finset S2304x1024.Idx := Finset.univ.filter fun y => lo ≤ (y 0).val ∧ (y 0).val < hi

theorem mem_rows {lo hi : ℕ} {y : S2304x1024.Idx} : y ∈ rows lo hi ↔ lo ≤ (y 0).val ∧ (y 0).val < hi := by
  unfold rows; rw [Finset.mem_filter]; exact ⟨fun h => h.2, fun h => ⟨Finset.mem_univ _, h⟩⟩

theorem rows_disjoint {a b c d : ℕ} (h : b ≤ c) : Disjoint (rows a b) (rows c d) :=
  Finset.disjoint_left.mpr fun y hy hy' => by
    have := (mem_rows.mp hy).2; have := (mem_rows.mp hy').1; omega

theorem rows_union {a b c : ℕ} (h : a ≤ b) (h' : b ≤ c) : rows a b ∪ rows b c = rows a c := by
  ext y; rw [Finset.mem_union, mem_rows, mem_rows, mem_rows]; omega

theorem rows_univ : rows 0 2304 = Finset.univ := by
  ext y; rw [mem_rows]; have : (y 0).val < 2304 := (y 0).isLt
  exact ⟨fun _ => Finset.mem_univ _, fun _ => ⟨Nat.zero_le _, this⟩⟩

/-- A block of whole rows is its rows. -/
theorem rect_rows {o n : ℕ} (inb : ∀ a, (![o, 0] : Fin 2 → ℕ) a + (![n, 1024] : Fin 2 → ℕ) a ≤ S2304x1024.size a) :
    (Rect.unit (s := S2304x1024) ![o, 0] ![n, 1024] inb).set = rows o (o + n) := by
  ext y
  rw [mem_rows, Rect.mem_set_unit (inb := inb)]
  have h1 : (y 1).val < 1024 := (y 1).isLt
  constructor
  · intro h; exact h 0
  · intro h a
    match a with
    | ⟨0, _⟩ => exact h
    | ⟨1, _⟩ => exact ⟨Nat.zero_le _, show (y 1).val < 0 + 1024 by omega⟩

/-- Rows of the extended `k` (and `v`) buffer of device `c`, at contents `f`. -/
abbrev pcK (c : Dev nD) (lo hi : ℕ) (f : Vec F S2304x1024 .bf16) : sProp 𝕄 :=
  kbM.view.loc (c : Thread nD τ) ↦[rows lo hi]{fullShare} f
abbrev pcV (c : Dev nD) (lo hi : ℕ) (f : Vec F S2304x1024 .bf16) : sProp 𝕄 :=
  vbM.view.loc (c : Thread nD τ) ↦[rows lo hi]{fullShare} f

omit [FloatOps F] in
theorem pcK_split (c : Dev nD) {a b d : ℕ} (h : a ≤ b) (h' : b ≤ d) (f : Vec F S2304x1024 .bf16) :
    pcK c a d f ⊣⊢ iprop(pcK c a b f ∗ pcK c b d f) := by
  unfold pcK; rw [← rows_union h h']; exact pointsTo_union (rows_disjoint (le_refl b))
omit [FloatOps F] in
theorem pcV_split (c : Dev nD) {a b d : ℕ} (h : a ≤ b) (h' : b ≤ d) (f : Vec F S2304x1024 .bf16) :
    pcV c a d f ⊣⊢ iprop(pcV c a b f ∗ pcV c b d f) := by
  unfold pcV; rw [← rows_union h h']; exact pointsTo_union (rows_disjoint (le_refl b))

omit [FloatOps F] in
theorem pcK_congr (c : Dev nD) {a b : ℕ} {f g : Vec F S2304x1024 .bf16} (h : ∀ y : S2304x1024.Idx, a ≤ (y 0).val → (y 0).val < b → f y = g y) :
    pcK c a b f = pcK c a b g := pointsTo_congr fun i hi => h i (mem_rows.mp hi).1 (mem_rows.mp hi).2
omit [FloatOps F] in
theorem pcV_congr (c : Dev nD) {a b : ℕ} {f g : Vec F S2304x1024 .bf16} (h : ∀ y : S2304x1024.Idx, a ≤ (y 0).val → (y 0).val < b → f y = g y) :
    pcV c a b f = pcV c a b g := pointsTo_congr fun i hi => h i (mem_rows.mp hi).1 (mem_rows.mp hi).2

/-- The program's blocks of 128 rows are these. -/
theorem setK {o : ℕ} (inb : ∀ a, (![o, 0] : Fin 2 → ℕ) a + S128x1024.size a ≤ S2304x1024.size a) :
    (kbM.slice (Rect.unit (s := S2304x1024) ![o, 0] S128x1024.size inb) (fun _ => rfl)).view.set = rows o (o + 128) :=
  (View.set_slice_whole cc0_scratch0 _).trans (rect_rows inb)
theorem setV {o : ℕ} (inb : ∀ a, (![o, 0] : Fin 2 → ℕ) a + S128x1024.size a ≤ S2304x1024.size a) :
    (vbM.slice (Rect.unit (s := S2304x1024) ![o, 0] S128x1024.size inb) (fun _ => rfl)).view.set = rows o (o + 128) :=
  (View.set_slice_whole cc0_scratch1 _).trans (rect_rows inb)

/-! ## Contents -/

/-- The extended buffer after the exchange: the neighbours' nearest 128 rows in the halos, zeros where there is no
    neighbour. -/
def full (k : Dev nD → Vec F S1x2048x8x128 .f32) (c : Dev nD) : Vec F S2304x1024 .bf16 := fun y =>
  if h : (y 0).val < 128 ∧ hasL c then extOwn (k (prv c)) (ix2 (⟨(y 0).val + 2048, by omega⟩ : Fin 2304) (y 1))
  else if h : 2176 ≤ (y 0).val ∧ hasR c then
    extOwn (k (nxt c)) (ix2 (⟨(y 0).val - 2048, by have : (y 0).val < 2304 := (y 0).isLt; omega⟩ : Fin 2304) (y 1))
  else extOwn (k c) y

theorem full_mid (k : Dev nD → Vec F S1x2048x8x128 .f32) (c : Dev nD) (y : S2304x1024.Idx)
    (h : 128 ≤ (y 0).val) (h' : (y 0).val < 2176) : full k c y = extOwn (k c) y := by
  unfold full; rw [dif_neg (by omega), dif_neg (by omega)]
theorem full_lo (k : Dev nD → Vec F S1x2048x8x128 .f32) (c : Dev nD) (y : S2304x1024.Idx) (h : ¬ hasL c) (h' : (y 0).val < 128) :
    full k c y = extOwn (k c) y := by
  unfold full; rw [dif_neg (fun e => h e.2), dif_neg (by omega)]
theorem full_hi (k : Dev nD → Vec F S1x2048x8x128 .f32) (c : Dev nD) (y : S2304x1024.Idx) (h : ¬ hasR c) (h' : 2176 ≤ (y 0).val) :
    full k c y = extOwn (k c) y := by
  unfold full; rw [dif_neg (by omega), dif_neg (fun e => h e.2)]
/-- The right neighbour's low halo holds rows 2048.. of the device. -/
theorem full_nxt (k : Dev nD → Vec F S1x2048x8x128 .f32) (c : Dev nD) (hc : hasR c) (r : Fin 128) (j : Fin 1024) :
    full k (nxt c) (ix2 (⟨0 + 1 * r.val, by omega⟩ : Fin 2304) j) = full k c (ix2 (⟨2048 + 1 * r.val, by omega⟩ : Fin 2304) j) := by
  have hr := r.isLt
  rw [full_mid k c _ (show 128 ≤ 2048 + 1 * r.val by omega) (show 2048 + 1 * r.val < 2176 by omega)]
  unfold full
  rw [dif_pos ⟨show 0 + 1 * r.val < 128 by omega, (hasL_nxt c).mpr hc⟩, prv_nxt]
  exact congrArg (extOwn (k c)) (congrArg (ix2 · j) (Fin.ext (show 0 + 1 * r.val + 2048 = 2048 + 1 * r.val by omega)))
/-- The left neighbour's high halo holds rows 128.. of the device. -/
theorem full_prv (k : Dev nD → Vec F S1x2048x8x128 .f32) (c : Dev nD) (hc : hasL c) (r : Fin 128) (j : Fin 1024) :
    full k (prv c) (ix2 (⟨2176 + 1 * r.val, by omega⟩ : Fin 2304) j) = full k c (ix2 (⟨128 + 1 * r.val, by omega⟩ : Fin 2304) j) := by
  have hr := r.isLt
  rw [full_mid k c _ (show 128 ≤ 128 + 1 * r.val by omega) (show 128 + 1 * r.val < 2176 by omega)]
  unfold full
  rw [dif_neg (fun e => absurd e.1 (show ¬ 2176 + 1 * r.val < 128 by omega)),
    dif_pos ⟨show 2176 ≤ 2176 + 1 * r.val by omega, (hasR_prv c).mpr hc⟩, nxt_prv]
  exact congrArg (extOwn (k c)) (congrArg (ix2 · j) (Fin.ext (show 2176 + 1 * r.val - 2048 = 128 + 1 * r.val by omega)))

/-! ## The schedule -/

section Schedule

variable (k v : Dev nD → Vec F S1x2048x8x128 .f32)

/-- What a signal hands over: the signaller's halo rows that face `c`. -/
def barPay (c : Dev nD) (d : Bool) : sProp 𝕄 :=
  if d then iprop((∃ f, pcK (nxt c) 0 128 f) ∗ ∃ f, pcV (nxt c) 0 128 f)
  else iprop((∃ f, pcK (prv c) 2176 2304 f) ∗ ∃ f, pcV (prv c) 2176 2304 f)
/-- What the credit of a DMA semaphore hands over. -/
def xferPay (c : Dev nD) (q : ℕ) : sProp 𝕄 :=
  if q = 20 then pcK c 2048 2176 (full k c) else if q = 21 then pcV c 2048 2176 (full v c)
  else if q = 22 then pcK c 128 256 (full k c) else if q = 23 then pcV c 128 256 (full v c)
  else if q = 24 then pcK c 0 128 (full k c) else if q = 25 then pcV c 0 128 (full v c)
  else if q = 26 then pcK c 2176 2304 (full k c) else if q = 27 then pcV c 2176 2304 (full v c)
  else iprop(emp)

/-- Whether a semaphore of a device is used: which neighbour it needs. -/
def used (c : Dev nD) (q : ℕ) : Prop :=
  if q = 20 ∨ q = 21 ∨ q = 26 ∨ q = 27 then hasR c else if q = 22 ∨ q = 23 ∨ q = 24 ∨ q = 25 then hasL c else False
instance (c : Dev nD) (q : ℕ) : Decidable (used c q) := by unfold used; infer_instance

/-- One round. The barrier has a duty for each neighbour (`false` the left one's, `true` the right one's), of one unit;
    a used DMA semaphore the one duty `false`, of a copy's credit. -/
def haloRd : Rounds.Schedule (GSem nD τ sig) Bool 𝕄 where
  duties g r := if r = 0 ∧ g.1.2 = .tc then
      match g.2 with
      | .reg _ => Finset.univ.filter fun d : Bool => if d then hasR g.1.1 else hasL g.1.1
      | .dma q => if used g.1.1 q.val then {false} else ∅
    else ∅
  unitless _ := False
  amount g _ _ := match g.2 with | .reg _ => 1 | .dma _ => N
  payload g _ d := match g.2 with | .reg _ => barPay g.1.1 d | .dma q => xferPay k v g.1.1 q.val
  amount_pos g _ _ _ := by
    rcases g with ⟨t, _ | _⟩
    · exact Nat.one_pos
    · exact N_pos

instance haloRd_payload_storable (g : GSem nD τ sig) (r : ℕ) (d : Bool) :
    BI.Storable (upEmb : UEmb _ 𝕄) ((haloRd (F := F) k v).payload g r d) := by
  rcases g with ⟨t, s | q⟩
  · show BI.Storable upEmb (barPay t.1 d)
    unfold barPay; split <;> infer_instance
  · show BI.Storable upEmb (xferPay k v t.1 q.val)
    unfold xferPay; (repeat' split) <;> infer_instance

theorem duties_later (g : GSem nD τ sig) : ∀ r, 1 ≤ r → (haloRd (F := F) k v).duties g r = ∅ :=
  fun r hr => if_neg fun h => by omega
theorem duties_bar (c : Dev nD) :
    (haloRd (F := F) k v).duties (kcell (c, 0)) 0 = Finset.univ.filter fun d : Bool => if d then hasR c else hasL c := by
  dsimp only [haloRd, kcell, csem]; exact if_pos ⟨rfl, rfl⟩
theorem duties_dma (c : Dev nD) (q : DmaSem sig) (h : used c q.val) :
    (haloRd (F := F) k v).duties ((c : Thread nD τ), .dma q) 0 = {false} := by
  dsimp only [haloRd]; rw [if_pos ⟨rfl, rfl⟩, if_pos h]
theorem duties_dma_none (c : Dev nD) (q : DmaSem sig) (h : ¬ used c q.val) (r : ℕ) :
    (haloRd (F := F) k v).duties ((c : Thread nD τ), .dma q) r = ∅ := by
  by_cases hr : r = 0
  · subst hr; dsimp only [haloRd]; rw [if_pos ⟨rfl, rfl⟩, if_neg h]
  · exact duties_later k v _ r (by omega)
theorem expect_dma (c : Dev nD) (q : DmaSem sig) (h : used c q.val) :
    (haloRd (F := F) k v).expect ((c : Thread nD τ), .dma q) 0 = N := by
  unfold Schedule.expect Schedule.amountOf; rw [duties_dma k v c q h, Finset.sum_singleton]; rfl
theorem rest_dma (c : Dev nD) (q : DmaSem sig) (h : used c q.val) :
    bigSep ((haloRd (F := F) k v).duties ((c : Thread nD τ), .dma q) 0 \ ∅)
      (fun d => (haloRd (F := F) k v).payload ((c : Thread nD τ), .dma q) 0 d) = xferPay k v c q.val := by
  rw [Finset.sdiff_empty, duties_dma k v c q h, bigSep_singleton]; rfl

end Schedule

/-! ## What each device owes; the levels -/

/-- Units and credits by neighbour. -/
abbrev bl (c : Dev nD) : ℕ := if hasL c then 1 else 0
abbrev br (c : Dev nD) : ℕ := if hasR c then 1 else 0
abbrev nl (c : Dev nD) : ℕ := if hasL c then N else 0
abbrev nr (c : Dev nD) : ℕ := if hasR c then N else 0

/-- The copies to the left, to the right, and the two signals, in the order in which they are paid (last first). -/
def oL (c : Dev nD) : CellTallies nD τ sig Unit := tallyAt (kcell (prv c, 8)) () (nl c) + tallyAt (kcell (prv c, 7)) () (nl c)
def oR (c : Dev nD) : CellTallies nD τ sig Unit := tallyAt (kcell (nxt c, 6)) () (nr c) + tallyAt (kcell (nxt c, 5)) () (nr c)
def O₁ (c : Dev nD) : CellTallies nD τ sig Unit := oL c + oR c
def O₀ (c : Dev nD) : CellTallies nD τ sig Unit := O₁ c + tallyAt (kcell (nxt c, 0)) () (br c) + tallyAt (kcell (prv c, 0)) () (bl c)

def L (g : GSem nD τ sig) : Finset Unit := if g.1.2 = .tc then {()} else ∅
/-- The barrier at 1, the receive semaphores at 2, everything else at 0. -/
def lv (g : GSem nD τ sig) (_ : Unit) : ℕ := match g.2 with | .reg _ => 1 | .dma q => if 24 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem pos_tally {g g' : GSem nD τ sig} {n : ℕ} {u : Unit} (h : 0 < (tallyAt g () n : CellTallies nD τ sig Unit) g' u) : g' = g := by
  rw [tallyAt_apply] at h
  by_contra hn
  rw [if_neg (fun e => hn e.1)] at h
  exact Nat.lt_irrefl 0 h
theorem pos_add {A B : CellTallies nD τ sig Unit} {g : GSem nD τ sig} {u : Unit} (h : 0 < (A + B) g u) : 0 < A g u ∨ 0 < B g u := by
  rw [Pi.add_apply, Finsupp.add_apply] at h; omega

theorem O₁_pos {c : Dev nD} {g : GSem nD τ sig} {u : Unit} (h : 0 < O₁ c g u) : ∃ d, ∃ j : Fin 9, g = kcell (d, j) ∧ 1 < lv g () := by
  unfold O₁ oL oR at h
  rcases pos_add h with h | h <;> rcases pos_add h with h | h <;> rw [pos_tally h] <;> exact ⟨_, _, rfl, (by decide : (1 : ℕ) < 2)⟩
theorem O₀_pos {c : Dev nD} {g : GSem nD τ sig} {u : Unit} (h : 0 < O₀ c g u) : ∃ d, ∃ j : Fin 9, g = kcell (d, j) ∧ 0 < lv g () := by
  unfold O₀ at h
  rcases pos_add h with h | h
  · rcases pos_add h with h | h
    · obtain ⟨d, j, e, h'⟩ := O₁_pos h; exact ⟨d, j, e, by omega⟩
    · rw [pos_tally h]; exact ⟨_, _, rfl, Nat.one_pos⟩
  · rw [pos_tally h]; exact ⟨_, _, rfl, Nat.one_pos⟩

omit [FloatOps F] in
/-- A wait is allowed below everything that is owed. -/
theorem mayWait_below (c : Dev nD) (sm : SemLoc sig) (O : CellTallies nD τ sig Unit)
    (hO : ∀ g u, 0 < O g u → ∃ d, ∃ j : Fin 9, g = kcell (d, j) ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by obtain ⟨d, j, rfl, -⟩ := hO g u hg; exact Finset.mem_singleton_self _)
    (fun p hp => by rw [Finset.mem_singleton.mp hp])
    (fun g u hg => by obtain ⟨d, j, rfl, h⟩ := hO g u hg; exact h)

omit [FloatOps F] in
theorem mayWait_copy (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · refine mayWait_below c _ _ fun g u hg => ?_
    obtain ⟨d, j, e, h⟩ := O₀_pos hg
    refine ⟨d, j, e, ?_⟩
    rw [show lv ((c : Thread nD τ), .dma q) () = 0 from if_neg (by omega)]; exact h
  · rw [MayWait_zero]; iintro -; iempintro

omit [FloatOps F] in
theorem mayWait_bar (c : Dev nD) : (levAts L lv : sProp 𝕄) ⊢ MayWait (c : Thread nD τ) (.reg barS) () (O₁ c) :=
  mayWait_below c _ _ fun g u hg => O₁_pos hg

end Cert.KernelIdeal.Halo

end
-- ==== Proof.Exchange.lean ====
/-
  The steps of the exchange: each guarded step of the program takes the resources that the protocol gives the device for
  it and leaves what the protocol hands back, whether or not the device has the neighbour.
-/
module

public import proofs.«01_k».proof.Proof.Common

@[expose] public section

set_option maxRecDepth 16384

noncomputable section

namespace Cert.KernelIdeal.Halo

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (k v : Dev nD → Vec F S1x2048x8x128 .f32) (K : Dev nD × Fin 9 → ℕ)

/-- What every device knows throughout: the invariant of each cell, under the names `K`; that round 0 of each is
    reached; the levels. -/
def records : sProp 𝕄 :=
  iprop((bigSep Finset.univ fun cj : Dev nD × Fin 9 => cellInv ER (haloRd k v) (K cj) (kcell cj))
    ∗ (bigSep Finset.univ fun cj : Dev nD × Fin 9 => reached ER (kcell cj) 0) ∗ levAts L lv)

instance records_persistent : BI.Persistent (records k v K) := by unfold records; infer_instance

theorem inv_of (cj : Dev nD × Fin 9) :
    (bigSep Finset.univ fun cj : Dev nD × Fin 9 => (cellInv ER (haloRd k v) (K cj) (kcell cj) : sProp 𝕄)) ⊢ cellInv ER (haloRd k v) (K cj) (kcell cj) :=
  bigSep_elim (Finset.mem_univ cj)
omit [FloatOps F] in
theorem reached_of (cj : Dev nD × Fin 9) :
    (bigSep Finset.univ fun cj : Dev nD × Fin 9 => (reached ER (kcell cj) 0 : sProp 𝕄)) ⊢ reached ER (kcell cj) 0 :=
  bigSep_elim (Finset.mem_univ cj)
theorem rec_inv (cj : Dev nD × Fin 9) : records k v K ⊢ cellInv ER (haloRd k v) (K cj) (kcell cj) := by
  unfold records; iintro ⟨H, -, -⟩; iapply (inv_of k v K cj); iexact H
theorem rec_reached (cj : Dev nD × Fin 9) : records k v K ⊢ reached ER (kcell cj) 0 := by
  unfold records; iintro ⟨-, H, -⟩; iapply (reached_of cj); iexact H
theorem rec_lev : records k v K ⊢ levAts L lv := by
  unfold records; iintro ⟨-, -, H⟩; iexact H

/-! ## The signals -/

theorem sigL_step (c : Dev nD) (O : CellTallies nD τ sig Unit) (W : Waits sig Unit) (f g : Vec F S2304x1024 .bf16)
    {α : Type} (p : Prog (TpuEff nD τ sig (Elt F) Λ₀ .tc) α) (Q : α → sProp 𝕄) :
    iprop(records k v K ∗ owes (c : Thread nD τ) (O + tallyAt (kcell (prv c, 0)) () (bl c)) W ∗ dutyTok ER (kcell (prv c, 0)) 0 true
        ∗ pcK c 0 128 f ∗ pcV c 0 128 g
        ∗ (owes (c : Thread nD τ) O W -∗ (if hasL c then iprop(emp) else iprop(pcK c 0 128 f ∗ pcV c 0 128 g))
            -∗ wp frame (wpE (defs₀ (F := F)) 𝒱₀ c none) Set.univ p Q))
      ⊢ wp frame (wpE (defs₀ (F := F)) 𝒱₀ c none) Set.univ (sigL c p) Q := by
  unfold sigL
  by_cases h : hasL c
  · rw [dif_pos ((cond1_iff c).mpr h), dev1_eq c ((cond1_iff c).mpr h), if_pos h, show bl c = 1 from if_pos h]
    simp only [semSignalWord, Prog.lift, Prog.bind_op, Prog.bind_ret, Prog.pure_eq_ret]
    iintro ⟨#HR, HO, Ht, HK, HV, Hk⟩
    iapply (Rounds.wp_signal 𝒱₀ ER (haloRd k v) (c : Thread nD τ) none (dst := (prv c : Thread nD τ)) (κ := K (prv c, 0))
      (d := true) (r := 0) (by rw [duties_bar k v]; exact Finset.mem_filter.mpr ⟨Finset.mem_univ _, (hasR_prv c).mpr h⟩) rfl () O rfl)
      $$ [HO Ht HK HV]
    · isplitr; · iapply (rec_inv k v K (prv c, 0)); iexact HR
      isplitl [HO]; · iexact HO
      isplitl [Ht]; · iexact Ht
      isplitl
      · rw [show (haloRd k v).payload ((prv c : Thread nD τ), .reg barS) 0 true = barPay (prv c) true from rfl]
        unfold barPay; rw [if_pos rfl, nxt_prv]
        isplitl [HK]; · iexists f; iexact HK
        iexists g; iexact HV
      · iapply (rec_reached k v K (prv c, 0)); iexact HR
    iintro HO
    iapply Hk $$ HO
    iempintro
  · rw [dif_neg (fun e => h ((cond1_iff c).mp e)), if_neg h, show bl c = 0 from if_neg h, tallyAt_zero, add_zero]
    iintro ⟨#HR, HO, Ht, HK, HV, Hk⟩
    iapply Hk $$ HO
    isplitl [HK] <;> iassumption

theorem sigR_step (c : Dev nD) (O : CellTallies nD τ sig Unit) (W : Waits sig Unit) (f g : Vec F S2304x1024 .bf16)
    {α : Type} (p : Prog (TpuEff nD τ sig (Elt F) Λ₀ .tc) α) (Q : α → sProp 𝕄) :
    iprop(records k v K ∗ owes (c : Thread nD τ) (O + tallyAt (kcell (nxt c, 0)) () (br c)) W ∗ dutyTok ER (kcell (nxt c, 0)) 0 false
        ∗ pcK c 2176 2304 f ∗ pcV c 2176 2304 g
        ∗ (owes (c : Thread nD τ) O W -∗ (if hasR c then iprop(emp) else iprop(pcK c 2176 2304 f ∗ pcV c 2176 2304 g))
            -∗ wp frame (wpE (defs₀ (F := F)) 𝒱₀ c none) Set.univ p Q))
      ⊢ wp frame (wpE (defs₀ (F := F)) 𝒱₀ c none) Set.univ (sigR c p) Q := by
  unfold sigR
  by_cases h : hasR c
  · rw [dif_pos ((cond2_iff c).mpr h), dev2_eq c ((cond2_iff c).mpr h), if_pos h, show br c = 1 from if_pos h]
    simp only [semSignalWord, Prog.lift, Prog.bind_op, Prog.bind_ret, Prog.pure_eq_ret]
    iintro ⟨#HR, HO, Ht, HK, HV, Hk⟩
    iapply (Rounds.wp_signal 𝒱₀ ER (haloRd k v) (c : Thread nD τ) none (dst := (nxt c : Thread nD τ)) (κ := K (nxt c, 0))
      (d := false) (r := 0) (by rw [duties_bar k v]; exact Finset.mem_filter.mpr ⟨Finset.mem_univ _, (hasL_nxt c).mpr h⟩) rfl () O rfl)
      $$ [HO Ht HK HV]
    · isplitr; · iapply (rec_inv k v K (nxt c, 0)); iexact HR
      isplitl [HO]; · iexact HO
      isplitl [Ht]; · iexact Ht
      isplitl
      · rw [show (haloRd k v).payload ((nxt c : Thread nD τ), .reg barS) 0 false = barPay (nxt c) false from rfl]
        unfold barPay; rw [if_neg Bool.false_ne_true, prv_nxt]
        isplitl [HK]; · iexists f; iexact HK
        iexists g; iexact HV
      · iapply (rec_reached k v K (nxt c, 0)); iexact HR
    iintro HO
    iapply Hk $$ HO
    iempintro
  · rw [dif_neg (fun e => h ((cond2_iff c).mp e)), if_neg h, show br c = 0 from if_neg h, tallyAt_zero, add_zero]
    iintro ⟨#HR, HO, Ht, HK, HV, Hk⟩
    iapply Hk $$ HO
    isplitl [HK] <;> iassumption

/-! ## The barrier waits -/

/-- What the barrier gives: the facing halo rows of each neighbour. -/
abbrev barL (c : Dev nD) : sProp 𝕄 := if hasL c then barPay c false else iprop(emp)
abbrev barR (c : Dev nD) : sProp 𝕄 := if hasR c then barPay c true else iprop(emp)

theorem bar_step (c : Dev nD) (O : CellTallies nD τ sig Unit) (W : Waits sig Unit)
    (hM : (levAts L lv : sProp 𝕄) ⊢ MayWait (c : Thread nD τ) (.reg barS) () O)
    {α : Type} (p : Prog (TpuEff nD τ sig (Elt F) Λ₀ .tc) α) (Q : α → sProp 𝕄) :
    iprop(records k v K ∗ owes (c : Thread nD τ) O W ∗ cred (tallyAt (kcell (c, 0)) () (bl c + br c)) ∗ atPos ER (kcell (c, 0)) 0 ∅ 0
        ∗ (iprop(∃ W', owes (c : Thread nD τ) O W') -∗ semVal (kcell (c, 0)) 0 -∗ barL c -∗ barR c
            -∗ wp frame (wpE (defs₀ (F := F)) 𝒱₀ c none) Set.univ p Q))
      ⊢ wp frame (wpE (defs₀ (F := F)) 𝒱₀ c none) Set.univ (barW (wl c) (barW (wr c) p)) Q := by
  unfold barW barL barR
  by_cases hl : hasL c <;> by_cases hr : hasR c
  · rw [dif_pos ((wl_iff c).mpr hl), dif_pos ((wr_iff c).mpr hr), if_pos hl, if_pos hr, show bl c = 1 from if_pos hl, show br c = 1 from if_pos hr]
    have hd : (haloRd (F := F) k v).duties (kcell (c, 0)) 0 = Finset.univ := by
      rw [duties_bar]; exact Finset.filter_true_of_mem fun d _ => by cases d; exacts [hl, hr]
    have he : (haloRd (F := F) k v).expect (kcell (c, 0)) 0 = 2 := by
      unfold Schedule.expect Schedule.amountOf; rw [hd]; rfl
    simp only [semWaitWord, Prog.lift, Prog.bind_op, Prog.bind_ret, Prog.pure_eq_ret]
    iintro ⟨#HR, HO, Hc, Hat, Hk⟩
    ihave Hc2 := ((Entails.of_eq (congrArg cred (tallyAt_add (kcell (c, 0)) () 1 1).symm)).trans (cred_add _ _).1) $$ Hc
    icases Hc2 with ⟨Hc1, Hc2⟩
    iapply (Rounds.wp_wait 𝒱₀ ER (haloRd k v) (c : Thread nD τ) none (κ := K (c, 0)) (wpE_semWait_eq 𝒱₀ (c : Thread nD τ) none Set.univ) (Set.mem_univ _)
      (cr := Finsupp.single () 1) (O := O) (W := W) {(SemLoc.reg barS, ())} (R := 0) (m := 0) (T := ∅) (by rw [Util.total_single]; rfl)
      (image_single_subset _ () 1)) $$ [HO Hc1 Hat]
    · isplitr; · iapply (rec_inv k v K (c, 0)); iexact HR
      isplitl [Hc1]; · iexact Hc1
      isplitl [HO]; · iexact HO
      isplitr
      · iapply (show (levAts L lv : sProp 𝕄) ⊢ MayOwe (c : Thread nD τ) {(SemLoc.reg barS, ())} O from hM)
        iapply (rec_lev k v K); iexact HR
      iexact Hat
    iintro %S ⟨%hS, HO, Hat, Hp⟩
    iapply (Rounds.wp_wait_rest_token 𝒱₀ ER (haloRd k v) (c : Thread nD τ) none (κ := K (c, 0))
      (wpE_semWait_eq 𝒱₀ (c : Thread nD τ) none Set.univ) (Set.mem_univ _) () (O := O) (W := W ∪ {(SemLoc.reg barS, ())}) (R := 0) (m := 0 + 1) (T := S)
      (by rw [he]; decide)) $$ [HO Hc2 Hat]
    · isplitr; · iapply (rec_inv k v K (c, 0)); iexact HR
      isplitl [Hc2]; · iexact Hc2
      isplitl [HO]; · iexact HO
      isplitr; · iapply hM; iapply (rec_lev k v K); iexact HR
      iexact Hat
    iintro ⟨HO, Hat, -, Hp'⟩
    imod (Rounds.cell_close ER (haloRd k v) (Set.mem_univ (K (c, 0))) (fun h => h) (R := 0 + 1) (duties_later k v (kcell (c, 0)))) $$ [Hat] with Hz
    · isplitr; · iapply (rec_inv k v K (c, 0)); iexact HR
      iexact Hat
    ihave Hall := (show iprop(bigSep (S \ ∅) (fun d => (haloRd (F := F) k v).payload (kcell (c, 0)) 0 d)
        ∗ bigSep ((haloRd (F := F) k v).duties (kcell (c, 0)) 0 \ S) (fun d => (haloRd (F := F) k v).payload (kcell (c, 0)) 0 d))
        ⊢ iprop(barPay c false ∗ barPay c true : sProp 𝕄) from by
          rw [Finset.sdiff_empty, hd]
          refine (Entails.of_eq (bigSep_sdiff_split (Finset.subset_univ S)).symm).trans ?_
          rw [bigSep_univ_eq_bigSepL [false, true] (by decide) (by decide), bigSepL_cons_cons, bigSepL_singleton]
          exact BI.Entails.refl _) $$ [Hp Hp']
    · isplitl [Hp] <;> iassumption
    icases Hall with ⟨HL, HRr⟩
    iapply Hk $$ [HO] Hz HL HRr
    iexists _; iexact HO
  · rw [dif_pos ((wl_iff c).mpr hl), dif_neg (fun e => hr ((wr_iff c).mp e)), if_pos hl, if_neg hr, show bl c = 1 from if_pos hl, show br c = 0 from if_neg hr]
    have hd : (haloRd (F := F) k v).duties (kcell (c, 0)) 0 = {false} := by
      rw [duties_bar]; ext d; cases d <;> simp [hl, hr]
    have he : (haloRd (F := F) k v).expect (kcell (c, 0)) 0 = 1 := by
      unfold Schedule.expect Schedule.amountOf; rw [hd]; rfl
    simp only [semWaitWord, Prog.lift, Prog.bind_op, Prog.bind_ret, Prog.pure_eq_ret]
    iintro ⟨#HR, HO, Hc, Hat, Hk⟩
    iapply (Rounds.wp_wait_rest_token 𝒱₀ ER (haloRd k v) (c : Thread nD τ) none (κ := K (c, 0))
      (wpE_semWait_eq 𝒱₀ (c : Thread nD τ) none Set.univ) (Set.mem_univ _) () (O := O) (W := W) (R := 0) (m := 0) (T := ∅)
      (by rw [he]; decide)) $$ [HO Hc Hat]
    · isplitr; · iapply (rec_inv k v K (c, 0)); iexact HR
      isplitl [Hc]; · iexact Hc
      isplitl [HO]; · iexact HO
      isplitr; · iapply hM; iapply (rec_lev k v K); iexact HR
      iexact Hat
    iintro ⟨HO, Hat, -, Hp⟩
    imod (Rounds.cell_close ER (haloRd k v) (Set.mem_univ (K (c, 0))) (fun h => h) (R := 0 + 1) (duties_later k v (kcell (c, 0)))) $$ [Hat] with Hz
    · isplitr; · iapply (rec_inv k v K (c, 0)); iexact HR
      iexact Hat
    ihave HL := (show bigSep ((haloRd (F := F) k v).duties (kcell (c, 0)) 0 \ ∅) (fun d => (haloRd (F := F) k v).payload (kcell (c, 0)) 0 d)
        ⊢ (barPay c false : sProp 𝕄) from by
          rw [Finset.sdiff_empty, hd, bigSep_singleton]; exact BI.Entails.refl _) $$ Hp
    iapply Hk $$ [HO] Hz HL []
    · iexists _; iexact HO
    iempintro
  · rw [dif_neg (fun e => hl ((wl_iff c).mp e)), dif_pos ((wr_iff c).mpr hr), if_neg hl, if_pos hr, show bl c = 0 from if_neg hl, show br c = 1 from if_pos hr]
    have hd : (haloRd (F := F) k v).duties (kcell (c, 0)) 0 = {true} := by
      rw [duties_bar]; ext d; cases d <;> simp [hl, hr]
    have he : (haloRd (F := F) k v).expect (kcell (c, 0)) 0 = 1 := by
      unfold Schedule.expect Schedule.amountOf; rw [hd]; rfl
    simp only [semWaitWord, Prog.lift, Prog.bind_op, Prog.bind_ret, Prog.pure_eq_ret]
    iintro ⟨#HR, HO, Hc, Hat, Hk⟩
    iapply (Rounds.wp_wait_rest_token 𝒱₀ ER (haloRd k v) (c : Thread nD τ) none (κ := K (c, 0))
      (wpE_semWait_eq 𝒱₀ (c : Thread nD τ) none Set.univ) (Set.mem_univ _) () (O := O) (W := W) (R := 0) (m := 0) (T := ∅)
      (by rw [he]; decide)) $$ [HO Hc Hat]
    · isplitr; · iapply (rec_inv k v K (c, 0)); iexact HR
      isplitl [Hc]; · iexact Hc
      isplitl [HO]; · iexact HO
      isplitr; · iapply hM; iapply (rec_lev k v K); iexact HR
      iexact Hat
    iintro ⟨HO, Hat, -, Hp⟩
    imod (Rounds.cell_close ER (haloRd k v) (Set.mem_univ (K (c, 0))) (fun h => h) (R := 0 + 1) (duties_later k v (kcell (c, 0)))) $$ [Hat] with Hz
    · isplitr; · iapply (rec_inv k v K (c, 0)); iexact HR
      iexact Hat
    ihave HL := (show bigSep ((haloRd (F := F) k v).duties (kcell (c, 0)) 0 \ ∅) (fun d => (haloRd (F := F) k v).payload (kcell (c, 0)) 0 d)
        ⊢ (barPay c true : sProp 𝕄) from by
          rw [Finset.sdiff_empty, hd, bigSep_singleton]; exact BI.Entails.refl _) $$ Hp
    iapply Hk $$ [HO] Hz [] HL
    · iexists _; iexact HO
    iempintro
  · exact absurd (show hasR c by omega) hr

/-! ## The remote copies -/

theorem routes_nxt (c : Dev nD) : τ.routes (c : Thread nD τ) (nxt c : Thread nD τ) = true := by revert c; decide
theorem routes_prv (c : Dev nD) : τ.routes (c : Thread nD τ) (prv c : Thread nD τ) = true := by revert c; decide
omit [FloatOps F] in
theorem creditK {o : ℕ} (inb : ∀ a, (![o, 0] : Fin 2 → ℕ) a + S128x1024.size a ≤ S2304x1024.size a) :
    (kbM.slice (Rect.unit (s := S2304x1024) ![o, 0] S128x1024.size inb) (fun _ => rfl)).view.dmaCredit = N := rfl
omit [FloatOps F] in
theorem creditV {o : ℕ} (inb : ∀ a, (![o, 0] : Fin 2 → ℕ) a + S128x1024.size a ≤ S2304x1024.size a) :
    (vbM.slice (Rect.unit (s := S2304x1024) ![o, 0] S128x1024.size inb) (fun _ => rfl)).view.dmaCredit = N := rfl

/-- One copy of 128 rows of the `k` buffer to device `n`. -/
theorem copyK (c n' n : Dev nD) (hn : n' = n) {os od : ℕ}
    (inbs : ∀ a, (![os, 0] : Fin 2 → ℕ) a + S128x1024.size a ≤ S2304x1024.size a)
    (inbd : ∀ a, (![od, 0] : Fin 2 → ℕ) a + S128x1024.size a ≤ S2304x1024.size a) (qs qr : DmaSem sig) (κs κr : ℕ)
    (hus : used c qs.val) (hur : used n qr.val)
    (hps : xferPay k v c qs.val = pcK c os (os + 128) (full k c)) (hpr : xferPay k v n qr.val = pcK n od (od + 128) (full k n))
    (hos : os + 128 ≤ 2304) (hod : od + 128 ≤ 2304)
    (hcp : ∀ (r : Fin 128) (j : Fin 1024), full k n (ix2 (⟨od + 1 * r.val, by omega⟩ : Fin 2304) j) = full k c (ix2 (⟨os + 1 * r.val, by omega⟩ : Fin 2304) j))
    (hr : τ.routes (c : Thread nD τ) (n : Thread nD τ) = true)
    {hsc} {hsrc} {hdst} {hsem} (O : CellTallies nD τ sig Unit) (W : Waits sig Unit)
    {α : Type} (p : PUnit → Prog (TpuEff nD τ sig (Elt F) Λ₀ .tc) α) (Q : α → sProp 𝕄) :
    iprop(cellInv ER (haloRd k v) κs ((c : Thread nD τ), .dma qs) ∗ cellInv ER (haloRd k v) κr ((n : Thread nD τ), .dma qr)
        ∗ pcK c os (os + 128) (full k c) ∗ (∃ f, pcK n od (od + 128) f)
        ∗ owes (c : Thread nD τ) (O + tallyAt ((n : Thread nD τ), .dma qr) () N) W
        ∗ dutyTok ER ((c : Thread nD τ), .dma qs) 0 false ∗ reached ER ((c : Thread nD τ), .dma qs) 0
        ∗ dutyTok ER ((n : Thread nD τ), .dma qr) 0 false ∗ reached ER ((n : Thread nD τ), .dma qr) 0)
      ⊢ iprop(((cred (tallyAt ((c : Thread nD τ), .dma qs) () N) ∗ owes (c : Thread nD τ) O W)
            -∗ wp frame (wpE (defs₀ (F := F)) 𝒱₀ c none) Set.univ (p ⟨⟩) Q)
          -∗ wp frame (wpE (defs₀ (F := F)) 𝒱₀ c none) Set.univ
            (.op (.enqueueDma (kbM.slice (Rect.unit (s := S2304x1024) ![os, 0] S128x1024.size inbs) (fun _ => rfl))
              (.remote (Dev.tc n' : Thread nD τ) (kbM.slice (Rect.unit (s := S2304x1024) ![od, 0] S128x1024.size inbd) (fun _ => rfl)) (.dma qs) hsc)
              (.dma qr) hsrc hdst hsem) p) Q) := by
  subst hn
  iintro ⟨H1, H2, H3, ⟨%fd, H4⟩, H5⟩
  iapply (Rounds.wp_send_pointsTo 𝒱₀ ER (haloRd k v) (c : Thread nD τ) none (κ₁ := κs) (κ₂ := κr)
    (r₁ := 0) (r₂ := 0) (d₁ := false) (d₂ := false) (q := fullShare) (fs := full k c) (fd := fd)
    (by rw [duties_dma k v c qs hus]; exact Finset.mem_singleton_self _) (by rw [duties_dma k v n' qr hur]; exact Finset.mem_singleton_self _)
    () () N rfl rfl rfl O rfl (W := W)
    (by
      rw [show (haloRd k v).payload ((c : Thread nD τ), .dma qs) 0 false = xferPay k v c qs.val from rfl, hps]; unfold pcK; rw [setK inbs])
    (by
      rw [show (haloRd k v).payload ((n' : Thread nD τ), .dma qr) 0 false = xferPay k v n' qr.val from rfl, hpr]; unfold pcK; rw [← setK inbd]
      refine Entails.of_eq (pointsTo_congr fun i hi => ?_)
      obtain ⟨x, -, rfl⟩ := Finset.mem_map.mp hi
      rw [View.write_emb_of_mem _ _ (Finset.mem_univ x)]
      obtain ⟨r, j, rfl⟩ : ∃ (r : Fin 128) (j : Fin 1024), x = ix2 r j := ⟨x 0, x 1, eq_ix2 x⟩
      have e1 := hcp r j
      refine Eq.trans ?_ (e1.symm.trans ?_)
      · show full k c _ = full k c _
        refine congrArg (full k c) ?_
        refine (eq_ix2 _).trans ?_
        exact congrArg (ix2 _) (Fin.ext (show 0 + 1 * j.val = j.val by omega))
      · refine congrArg (full k n') ?_
        refine Eq.symm ((eq_ix2 _).trans ?_)
        exact congrArg (ix2 _) (Fin.ext (show 0 + 1 * j.val = j.val by omega)))
    hr) $$ [-]
  isplitl [H1]; · iexact H1
  isplitl [H2]; · iexact H2
  isplitl [H3]; · rw [setK inbs]; iexact H3
  isplitl [H4]; · rw [setK inbd]; iexact H4
  iexact H5

/-- One copy of 128 rows of the `v` buffer to device `n`. -/
theorem copyV (c n' n : Dev nD) (hn : n' = n) {os od : ℕ}
    (inbs : ∀ a, (![os, 0] : Fin 2 → ℕ) a + S128x1024.size a ≤ S2304x1024.size a)
    (inbd : ∀ a, (![od, 0] : Fin 2 → ℕ) a + S128x1024.size a ≤ S2304x1024.size a) (qs qr : DmaSem sig) (κs κr : ℕ)
    (hus : used c qs.val) (hur : used n qr.val)
    (hps : xferPay k v c qs.val = pcV c os (os + 128) (full v c)) (hpr : xferPay k v n qr.val = pcV n od (od + 128) (full v n))
    (hos : os + 128 ≤ 2304) (hod : od + 128 ≤ 2304)
    (hcp : ∀ (r : Fin 128) (j : Fin 1024), full v n (ix2 (⟨od + 1 * r.val, by omega⟩ : Fin 2304) j) = full v c (ix2 (⟨os + 1 * r.val, by omega⟩ : Fin 2304) j))
    (hr : τ.routes (c : Thread nD τ) (n : Thread nD τ) = true)
    {hsc} {hsrc} {hdst} {hsem} (O : CellTallies nD τ sig Unit) (W : Waits sig Unit)
    {α : Type} (p : PUnit → Prog (TpuEff nD τ sig (Elt F) Λ₀ .tc) α) (Q : α → sProp 𝕄) :
    iprop(cellInv ER (haloRd k v) κs ((c : Thread nD τ), .dma qs) ∗ cellInv ER (haloRd k v) κr ((n : Thread nD τ), .dma qr)
        ∗ pcV c os (os + 128) (full v c) ∗ (∃ f, pcV n od (od + 128) f)
        ∗ owes (c : Thread nD τ) (O + tallyAt ((n : Thread nD τ), .dma qr) () N) W
        ∗ dutyTok ER ((c : Thread nD τ), .dma qs) 0 false ∗ reached ER ((c : Thread nD τ), .dma qs) 0
        ∗ dutyTok ER ((n : Thread nD τ), .dma qr) 0 false ∗ reached ER ((n : Thread nD τ), .dma qr) 0)
      ⊢ iprop(((cred (tallyAt ((c : Thread nD τ), .dma qs) () N) ∗ owes (c : Thread nD τ) O W)
            -∗ wp frame (wpE (defs₀ (F := F)) 𝒱₀ c none) Set.univ (p ⟨⟩) Q)
          -∗ wp frame (wpE (defs₀ (F := F)) 𝒱₀ c none) Set.univ
            (.op (.enqueueDma (vbM.slice (Rect.unit (s := S2304x1024) ![os, 0] S128x1024.size inbs) (fun _ => rfl))
              (.remote (Dev.tc n' : Thread nD τ) (vbM.slice (Rect.unit (s := S2304x1024) ![od, 0] S128x1024.size inbd) (fun _ => rfl)) (.dma qs) hsc)
              (.dma qr) hsrc hdst hsem) p) Q) := by
  subst hn
  iintro ⟨H1, H2, H3, ⟨%fd, H4⟩, H5⟩
  iapply (Rounds.wp_send_pointsTo 𝒱₀ ER (haloRd k v) (c : Thread nD τ) none (κ₁ := κs) (κ₂ := κr)
    (r₁ := 0) (r₂ := 0) (d₁ := false) (d₂ := false) (q := fullShare) (fs := full v c) (fd := fd)
    (by rw [duties_dma k v c qs hus]; exact Finset.mem_singleton_self _) (by rw [duties_dma k v n' qr hur]; exact Finset.mem_singleton_self _)
    () () N rfl rfl rfl O rfl (W := W)
    (by
      rw [show (haloRd k v).payload ((c : Thread nD τ), .dma qs) 0 false = xferPay k v c qs.val from rfl, hps]; unfold pcV; rw [setV inbs])
    (by
      rw [show (haloRd k v).payload ((n' : Thread nD τ), .dma qr) 0 false = xferPay k v n' qr.val from rfl, hpr]; unfold pcV; rw [← setV inbd]
      refine Entails.of_eq (pointsTo_congr fun i hi => ?_)
      obtain ⟨x, -, rfl⟩ := Finset.mem_map.mp hi
      rw [View.write_emb_of_mem _ _ (Finset.mem_univ x)]
      obtain ⟨r, j, rfl⟩ : ∃ (r : Fin 128) (j : Fin 1024), x = ix2 r j := ⟨x 0, x 1, eq_ix2 x⟩
      have e1 := hcp r j
      refine Eq.trans ?_ (e1.symm.trans ?_)
      · show full v c _ = full v c _
        refine congrArg (full v c) ?_
        refine (eq_ix2 _).trans ?_
        exact congrArg (ix2 _) (Fin.ext (show 0 + 1 * j.val = j.val by omega))
      · refine congrArg (full v n') ?_
        refine Eq.symm ((eq_ix2 _).trans ?_)
        exact congrArg (ix2 _) (Fin.ext (show 0 + 1 * j.val = j.val by omega)))
    hr) $$ [-]
  isplitl [H1]; · iexact H1
  isplitl [H2]; · iexact H2
  isplitl [H3]; · rw [setV inbs]; iexact H3
  isplitl [H4]; · rw [setV inbd]; iexact H4
  iexact H5

/-- The copies to the right: what the left halo of the right neighbour gets. -/
theorem sendsR_step (c : Dev nD) (O : CellTallies nD τ sig Unit) (W : Waits sig Unit)
    {α : Type} (p : Prog (TpuEff nD τ sig (Elt F) Λ₀ .tc) α) (Q : α → sProp 𝕄) :
    iprop(records k v K ∗ owes (c : Thread nD τ) (O + oR c) W ∗ barR (F := F) c
        ∗ dutyTok ER (kcell (c, 1)) 0 false ∗ dutyTok ER (kcell (c, 2)) 0 false
        ∗ dutyTok ER (kcell (nxt c, 5)) 0 false ∗ dutyTok ER (kcell (nxt c, 6)) 0 false
        ∗ pcK c 2048 2176 (full k c) ∗ pcV c 2048 2176 (full v c)
        ∗ (owes (c : Thread nD τ) O W -∗ (if hasR c then iprop(cred (tallyAt (kcell (c, 1)) () N) ∗ cred (tallyAt (kcell (c, 2)) () N))
              else iprop(pcK c 2048 2176 (full k c) ∗ pcV c 2048 2176 (full v c)))
            -∗ wp frame (wpE (defs₀ (F := F)) 𝒱₀ c none) Set.univ p Q))
      ⊢ wp frame (wpE (defs₀ (F := F)) 𝒱₀ c none) Set.univ (sendsR c p) Q := by
  unfold sendsR barR oR
  by_cases h : hasR c
  · rw [dif_pos ((cond5_iff c).mpr h), if_pos h, if_pos h, show nr c = N from if_pos h, ← add_assoc]
    unfold barPay; rw [if_pos rfl]
    simp only [Prog.lift, Prog.bind_op, Prog.bind_ret, Prog.pure_eq_ret]
    iintro ⟨#HR, HO, ⟨HdK, HdV⟩, T1, T2, T5, T6, HK, HV, Hk⟩
    iapply (copyK k v c _ (nxt c) (dev3_eq c ((cond5_iff c).mpr h)) (os := 2048) (od := 0) inb_S2304x1024_S128x1024_2048_0 inb_S2304x1024_S128x1024_0_0
      (20 : Fin 28) (24 : Fin 28) (K (c, 1)) (K (nxt c, 5)) h ((hasL_nxt c).mpr h) rfl rfl (by omega) (by omega) (full_nxt k c h) (routes_nxt c)
      (O + tallyAt (kcell (nxt c, 6)) () N) W) $$ [HO HdK T1 T5 HK]
    · isplitr; · iapply (rec_inv k v K (c, 1)); iexact HR
      isplitr; · iapply (rec_inv k v K (nxt c, 5)); iexact HR
      isplitl [HK]; · iexact HK
      isplitl [HdK]; · iexact HdK
      isplitl [HO]; · iexact HO
      isplitl [T1]; · iexact T1
      isplitr; · iapply (rec_reached k v K (c, 1)); iexact HR
      isplitl [T5]; · iexact T5
      iapply (rec_reached k v K (nxt c, 5)); iexact HR
    iintro ⟨C1, HO⟩
    iapply (copyV k v c _ (nxt c) (dev4_eq c ((cond5_iff c).mpr h)) (os := 2048) (od := 0) inb_S2304x1024_S128x1024_2048_0 inb_S2304x1024_S128x1024_0_0
      (21 : Fin 28) (25 : Fin 28) (K (c, 2)) (K (nxt c, 6)) h ((hasL_nxt c).mpr h) rfl rfl (by omega) (by omega) (full_nxt v c h) (routes_nxt c)
      O W) $$ [HO HdV T2 T6 HV]
    · isplitr; · iapply (rec_inv k v K (c, 2)); iexact HR
      isplitr; · iapply (rec_inv k v K (nxt c, 6)); iexact HR
      isplitl [HV]; · iexact HV
      isplitl [HdV]; · iexact HdV
      isplitl [HO]; · iexact HO
      isplitl [T2]; · iexact T2
      isplitr; · iapply (rec_reached k v K (c, 2)); iexact HR
      isplitl [T6]; · iexact T6
      iapply (rec_reached k v K (nxt c, 6)); iexact HR
    iintro ⟨C2, HO⟩
    iapply Hk $$ HO
    isplitl [C1]; · iexact C1
    iexact C2
  · rw [dif_neg (fun e => h ((cond5_iff c).mp e)), if_neg h, if_neg h, show nr c = 0 from if_neg h, tallyAt_zero, tallyAt_zero, add_zero, add_zero]
    iintro ⟨#HR, HO, -, -, -, -, -, HK, HV, Hk⟩
    iapply Hk $$ HO
    isplitl [HK] <;> iassumption

/-- The copies to the left: what the right halo of the left neighbour gets. -/
theorem sendsL_step (c : Dev nD) (O : CellTallies nD τ sig Unit) (W : Waits sig Unit)
    {α : Type} (p : Prog (TpuEff nD τ sig (Elt F) Λ₀ .tc) α) (Q : α → sProp 𝕄) :
    iprop(records k v K ∗ owes (c : Thread nD τ) (O + oL c) W ∗ barL (F := F) c
        ∗ dutyTok ER (kcell (c, 3)) 0 false ∗ dutyTok ER (kcell (c, 4)) 0 false
        ∗ dutyTok ER (kcell (prv c, 7)) 0 false ∗ dutyTok ER (kcell (prv c, 8)) 0 false
        ∗ pcK c 128 256 (full k c) ∗ pcV c 128 256 (full v c)
        ∗ (owes (c : Thread nD τ) O W -∗ (if hasL c then iprop(cred (tallyAt (kcell (c, 3)) () N) ∗ cred (tallyAt (kcell (c, 4)) () N))
              else iprop(pcK c 128 256 (full k c) ∗ pcV c 128 256 (full v c)))
            -∗ wp frame (wpE (defs₀ (F := F)) 𝒱₀ c none) Set.univ p Q))
      ⊢ wp frame (wpE (defs₀ (F := F)) 𝒱₀ c none) Set.univ (sendsL c p) Q := by
  unfold sendsL barL oL
  by_cases h : hasL c
  · rw [dif_pos ((cond6_iff c).mpr h), if_pos h, if_pos h, show nl c = N from if_pos h, ← add_assoc]
    unfold barPay; rw [if_neg Bool.false_ne_true]
    simp only [Prog.lift, Prog.bind_op, Prog.bind_ret, Prog.pure_eq_ret]
    iintro ⟨#HR, HO, ⟨HdK, HdV⟩, T1, T2, T5, T6, HK, HV, Hk⟩
    iapply (copyK k v c _ (prv c) (dev5_eq c ((cond6_iff c).mpr h)) (os := 128) (od := 2176) inb_S2304x1024_S128x1024_128_0 inb_S2304x1024_S128x1024_2176_0
      (22 : Fin 28) (26 : Fin 28) (K (c, 3)) (K (prv c, 7)) h ((hasR_prv c).mpr h) rfl rfl (by omega) (by omega) (full_prv k c h) (routes_prv c)
      (O + tallyAt (kcell (prv c, 8)) () N) W) $$ [HO HdK T1 T5 HK]
    · isplitr; · iapply (rec_inv k v K (c, 3)); iexact HR
      isplitr; · iapply (rec_inv k v K (prv c, 7)); iexact HR
      isplitl [HK]; · iexact HK
      isplitl [HdK]; · iexact HdK
      isplitl [HO]; · iexact HO
      isplitl [T1]; · iexact T1
      isplitr; · iapply (rec_reached k v K (c, 3)); iexact HR
      isplitl [T5]; · iexact T5
      iapply (rec_reached k v K (prv c, 7)); iexact HR
    iintro ⟨C1, HO⟩
    iapply (copyV k v c _ (prv c) (dev6_eq c ((cond6_iff c).mpr h)) (os := 128) (od := 2176) inb_S2304x1024_S128x1024_128_0 inb_S2304x1024_S128x1024_2176_0
      (23 : Fin 28) (27 : Fin 28) (K (c, 4)) (K (prv c, 8)) h ((hasR_prv c).mpr h) rfl rfl (by omega) (by omega) (full_prv v c h) (routes_prv c)
      O W) $$ [HO HdV T2 T6 HV]
    · isplitr; · iapply (rec_inv k v K (c, 4)); iexact HR
      isplitr; · iapply (rec_inv k v K (prv c, 8)); iexact HR
      isplitl [HV]; · iexact HV
      isplitl [HdV]; · iexact HdV
      isplitl [HO]; · iexact HO
      isplitl [T2]; · iexact T2
      isplitr; · iapply (rec_reached k v K (c, 4)); iexact HR
      isplitl [T6]; · iexact T6
      iapply (rec_reached k v K (prv c, 8)); iexact HR
    iintro ⟨C2, HO⟩
    iapply Hk $$ HO
    isplitl [C1]; · iexact C1
    iexact C2
  · rw [dif_neg (fun e => h ((cond6_iff c).mp e)), if_neg h, if_neg h, show nl c = 0 from if_neg h, tallyAt_zero, tallyAt_zero, add_zero, add_zero]
    iintro ⟨#HR, HO, -, -, -, -, -, HK, HV, Hk⟩
    iapply Hk $$ HO
    isplitl [HK] <;> iassumption

/-! ## The waits for the copies -/

/-- One wait of a used semaphore: its payload, and its counter at zero again. -/
theorem waitX (c : Dev nD) (q : DmaSem sig) (κ : ℕ) (hu : used c q.val) {sp sp' : Space} {s s' : Shape} {e e' : EltTy}
    {src : Memref sig .tc sp' s' e'} {dst : Memref sig .tc sp s e} {hsrc hdst} (hN : dst.view.dmaCredit = N) (W : Waits sig Unit)
    {α : Type} (p : PUnit → Prog (TpuEff nD τ sig (Elt F) Λ₀ .tc) α) (Q : α → sProp 𝕄) :
    iprop(cellInv ER (haloRd k v) κ ((c : Thread nD τ), .dma q) ∗ cred (tallyAt ((c : Thread nD τ), .dma q) () N)
        ∗ owes (c : Thread nD τ) 0 W ∗ atPos ER ((c : Thread nD τ), .dma q) 0 ∅ 0
        ∗ (owes (c : Thread nD τ) 0 (insert (.dma q, ()) W) -∗ semVal ((c : Thread nD τ), .dma q) 0 -∗ xferPay k v c q.val
            -∗ wp frame (wpE (defs₀ (F := F)) 𝒱₀ c none) Set.univ (p ⟨⟩) Q))
      ⊢ wp frame (wpE (defs₀ (F := F)) 𝒱₀ c none) Set.univ (.op (.waitDma2 q src dst hsrc hdst) p) Q := by
  iintro ⟨#HI, Hc, HO, Hat, Hk⟩
  iapply (Rounds.wp_wait_rest_token 𝒱₀ ER (haloRd k v) (c : Thread nD τ) none (κ := κ)
      (fun J => (wpE_waitDma2_eq 𝒱₀ (c : Thread nD τ) none Set.univ (src := src) (dst := dst) (hsrc := hsrc) (hdst := hdst) J).trans
        (congrArg (fun n => waitSpec (c : Thread nD τ) Set.univ (SemLoc.dma q) n J) hN)) (Set.mem_univ _) () (O := 0) (W := W)
      (R := 0) (m := 0) (T := ∅) (by rw [Nat.zero_add, expect_dma k v c q hu])) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq (rest_dma k v c q hu)) $$ Hp
  imod (Rounds.cell_close ER (haloRd k v) (Set.mem_univ κ) (fun h => h) (R := 0 + 1) (duties_later k v ((c : Thread nD τ), .dma q))) $$ [Hat] with Hz
  · isplitr; · iexact HI
    iexact Hat
  iapply Hk $$ HO Hz Hp

/-- An unused semaphore's counter is at zero. -/
theorem close_none (c : Dev nD) (q : DmaSem sig) (κ : ℕ) (hu : ¬ used c q.val) :
    iprop(cellInv ER (haloRd k v) κ ((c : Thread nD τ), .dma q) ∗ atPos ER ((c : Thread nD τ), .dma q) 0 ∅ 0)
      ⊢ |={Set.univ}=> semVal ((c : Thread nD τ), .dma q) 0 :=
  Rounds.cell_close ER (haloRd k v) (Set.mem_univ κ) (fun h => h) (R := 0) (fun r _ => duties_dma_none k v c q hu r)

/-- The four waits on the left: the left halo filled and the sent rows back. -/
theorem waitsL_step (c : Dev nD) (W : Waits sig Unit)
    {α : Type} (p : Prog (TpuEff nD τ sig (Elt F) Λ₀ .tc) α) (Q : α → sProp 𝕄) :
    iprop(records k v K ∗ owes (c : Thread nD τ) 0 W
        ∗ atPos ER (kcell (c, 5)) 0 ∅ 0 ∗ atPos ER (kcell (c, 6)) 0 ∅ 0 ∗ atPos ER (kcell (c, 3)) 0 ∅ 0 ∗ atPos ER (kcell (c, 4)) 0 ∅ 0
        ∗ cred (tallyAt (kcell (c, 5)) () (nl c)) ∗ cred (tallyAt (kcell (c, 6)) () (nl c))
        ∗ (if hasL c then iprop(emp) else iprop(pcK c 0 128 (full k c) ∗ pcV c 0 128 (full v c)))
        ∗ (if hasL c then iprop(cred (tallyAt (kcell (c, 3)) () N) ∗ cred (tallyAt (kcell (c, 4)) () N))
              else iprop(pcK c 128 256 (full k c) ∗ pcV c 128 256 (full v c)))
        ∗ (iprop(∃ W', owes (c : Thread nD τ) 0 W')
            -∗ iprop(semVal (kcell (c, 5)) 0 ∗ semVal (kcell (c, 6)) 0 ∗ semVal (kcell (c, 3)) 0 ∗ semVal (kcell (c, 4)) 0)
            -∗ iprop(pcK c 0 128 (full k c) ∗ pcV c 0 128 (full v c) ∗ pcK c 128 256 (full k c) ∗ pcV c 128 256 (full v c))
            -∗ wp frame (wpE (defs₀ (F := F)) 𝒱₀ c none) Set.univ p Q))
      ⊢ wp frame (wpE (defs₀ (F := F)) 𝒱₀ c none) Set.univ (waitsL (wl c) p) Q := by
  unfold waitsL
  by_cases h : hasL c
  · rw [dif_pos ((wl_iff c).mpr h), if_pos h, if_pos h, show nl c = N from if_pos h]
    simp only [Prog.lift, Prog.bind_op, Prog.bind_ret, Prog.pure_eq_ret]
    unfold recvLK recvLV doneLK doneLV
    iintro ⟨#HR, HO, A5, A6, A3, A4, C5, C6, -, ⟨C3, C4⟩, Hk⟩
    iapply (waitX k v c (24 : Fin 28) (K (c, 5)) h (creditK inb_S2304x1024_S128x1024_0_0) W _ Q)
    isplitr; · iapply (rec_inv k v K (c, 5)); iexact HR
    isplitl [C5]; · iexact C5
    isplitl [HO]; · iexact HO
    isplitl [A5]; · iexact A5
    iintro HO S5 P5
    ihave P5 := (Entails.of_eq (show xferPay k v c (24 : Fin 28).val = pcK c 0 128 (full k c) from rfl)) $$ P5
    iapply (waitX k v c (25 : Fin 28) (K (c, 6)) h (creditV inb_S2304x1024_S128x1024_0_0) _ _ Q)
    isplitr; · iapply (rec_inv k v K (c, 6)); iexact HR
    isplitl [C6]; · iexact C6
    isplitl [HO]; · iexact HO
    isplitl [A6]; · iexact A6
    iintro HO S6 P6
    ihave P6 := (Entails.of_eq (show xferPay k v c (25 : Fin 28).val = pcV c 0 128 (full v c) from rfl)) $$ P6
    iapply (waitX k v c (22 : Fin 28) (K (c, 3)) h (creditK inb_S2304x1024_S128x1024_128_0) _ _ Q)
    isplitr; · iapply (rec_inv k v K (c, 3)); iexact HR
    isplitl [C3]; · iexact C3
    isplitl [HO]; · iexact HO
    isplitl [A3]; · iexact A3
    iintro HO S3 P3
    ihave P3 := (Entails.of_eq (show xferPay k v c (22 : Fin 28).val = pcK c 128 256 (full k c) from rfl)) $$ P3
    iapply (waitX k v c (23 : Fin 28) (K (c, 4)) h (creditV inb_S2304x1024_S128x1024_128_0) _ _ Q)
    isplitr; · iapply (rec_inv k v K (c, 4)); iexact HR
    isplitl [C4]; · iexact C4
    isplitl [HO]; · iexact HO
    isplitl [A4]; · iexact A4
    iintro HO S4 P4
    ihave P4 := (Entails.of_eq (show xferPay k v c (23 : Fin 28).val = pcV c 128 256 (full v c) from rfl)) $$ P4
    iapply Hk $$ [HO] [S5 S6 S3 S4] [P5 P6 P3 P4]
    · iexists _; iexact HO
    · isplitl [S5]; · iexact S5
      isplitl [S6]; · iexact S6
      isplitl [S3]; · iexact S3
      iexact S4
    · isplitl [P5]; · iexact P5
      isplitl [P6]; · iexact P6
      isplitl [P3]; · iexact P3
      iexact P4
  · rw [dif_neg (fun e => h ((wl_iff c).mp e)), if_neg h, if_neg h]
    iintro ⟨#HR, HO, A5, A6, A3, A4, -, -, ⟨P5, P6⟩, ⟨P3, P4⟩, Hk⟩
    imod (close_none k v c (24 : Fin 28) (K (c, 5)) h) $$ [A5] with S5
    · isplitr; · iapply (rec_inv k v K (c, 5)); iexact HR
      iexact A5
    imod (close_none k v c (25 : Fin 28) (K (c, 6)) h) $$ [A6] with S6
    · isplitr; · iapply (rec_inv k v K (c, 6)); iexact HR
      iexact A6
    imod (close_none k v c (22 : Fin 28) (K (c, 3)) h) $$ [A3] with S3
    · isplitr; · iapply (rec_inv k v K (c, 3)); iexact HR
      iexact A3
    imod (close_none k v c (23 : Fin 28) (K (c, 4)) h) $$ [A4] with S4
    · isplitr; · iapply (rec_inv k v K (c, 4)); iexact HR
      iexact A4
    iapply Hk $$ [HO] [S5 S6 S3 S4] [P5 P6 P3 P4]
    · iexists _; iexact HO
    · isplitl [S5]; · iexact S5
      isplitl [S6]; · iexact S6
      isplitl [S3]; · iexact S3
      iexact S4
    · isplitl [P5]; · iexact P5
      isplitl [P6]; · iexact P6
      isplitl [P3] <;> iassumption

/-- The four waits on the right: the right halo filled and the sent rows back. -/
theorem waitsR_step (c : Dev nD) (W : Waits sig Unit)
    {α : Type} (p : Prog (TpuEff nD τ sig (Elt F) Λ₀ .tc) α) (Q : α → sProp 𝕄) :
    iprop(records k v K ∗ owes (c : Thread nD τ) 0 W
        ∗ atPos ER (kcell (c, 7)) 0 ∅ 0 ∗ atPos ER (kcell (c, 8)) 0 ∅ 0 ∗ atPos ER (kcell (c, 1)) 0 ∅ 0 ∗ atPos ER (kcell (c, 2)) 0 ∅ 0
        ∗ cred (tallyAt (kcell (c, 7)) () (nr c)) ∗ cred (tallyAt (kcell (c, 8)) () (nr c))
        ∗ (if hasR c then iprop(emp) else iprop(pcK c 2176 2304 (full k c) ∗ pcV c 2176 2304 (full v c)))
        ∗ (if hasR c then iprop(cred (tallyAt (kcell (c, 1)) () N) ∗ cred (tallyAt (kcell (c, 2)) () N))
              else iprop(pcK c 2048 2176 (full k c) ∗ pcV c 2048 2176 (full v c)))
        ∗ (iprop(∃ W', owes (c : Thread nD τ) 0 W')
            -∗ iprop(semVal (kcell (c, 7)) 0 ∗ semVal (kcell (c, 8)) 0 ∗ semVal (kcell (c, 1)) 0 ∗ semVal (kcell (c, 2)) 0)
            -∗ iprop(pcK c 2176 2304 (full k c) ∗ pcV c 2176 2304 (full v c) ∗ pcK c 2048 2176 (full k c) ∗ pcV c 2048 2176 (full v c))
            -∗ wp frame (wpE (defs₀ (F := F)) 𝒱₀ c none) Set.univ p Q))
      ⊢ wp frame (wpE (defs₀ (F := F)) 𝒱₀ c none) Set.univ (waitsR (wr c) p) Q := by
  unfold waitsR
  by_cases h : hasR c
  · rw [dif_pos ((wr_iff c).mpr h), if_pos h, if_pos h, show nr c = N from if_pos h]
    simp only [Prog.lift, Prog.bind_op, Prog.bind_ret, Prog.pure_eq_ret]
    unfold recvRK recvRV doneRK doneRV
    iintro ⟨#HR, HO, A5, A6, A3, A4, C5, C6, -, ⟨C3, C4⟩, Hk⟩
    iapply (waitX k v c (26 : Fin 28) (K (c, 7)) h (creditK inb_S2304x1024_S128x1024_2176_0) W _ Q)
    isplitr; · iapply (rec_inv k v K (c, 7)); iexact HR
    isplitl [C5]; · iexact C5
    isplitl [HO]; · iexact HO
    isplitl [A5]; · iexact A5
    iintro HO S5 P5
    ihave P5 := (Entails.of_eq (show xferPay k v c (26 : Fin 28).val = pcK c 2176 2304 (full k c) from rfl)) $$ P5
    iapply (waitX k v c (27 : Fin 28) (K (c, 8)) h (creditV inb_S2304x1024_S128x1024_2176_0) _ _ Q)
    isplitr; · iapply (rec_inv k v K (c, 8)); iexact HR
    isplitl [C6]; · iexact C6
    isplitl [HO]; · iexact HO
    isplitl [A6]; · iexact A6
    iintro HO S6 P6
    ihave P6 := (Entails.of_eq (show xferPay k v c (27 : Fin 28).val = pcV c 2176 2304 (full v c) from rfl)) $$ P6
    iapply (waitX k v c (20 : Fin 28) (K (c, 1)) h (creditK inb_S2304x1024_S128x1024_2048_0) _ _ Q)
    isplitr; · iapply (rec_inv k v K (c, 1)); iexact HR
    isplitl [C3]; · iexact C3
    isplitl [HO]; · iexact HO
    isplitl [A3]; · iexact A3
    iintro HO S3 P3
    ihave P3 := (Entails.of_eq (show xferPay k v c (20 : Fin 28).val = pcK c 2048 2176 (full k c) from rfl)) $$ P3
    iapply (waitX k v c (21 : Fin 28) (K (c, 2)) h (creditV inb_S2304x1024_S128x1024_2048_0) _ _ Q)
    isplitr; · iapply (rec_inv k v K (c, 2)); iexact HR
    isplitl [C4]; · iexact C4
    isplitl [HO]; · iexact HO
    isplitl [A4]; · iexact A4
    iintro HO S4 P4
    ihave P4 := (Entails.of_eq (show xferPay k v c (21 : Fin 28).val = pcV c 2048 2176 (full v c) from rfl)) $$ P4
    iapply Hk $$ [HO] [S5 S6 S3 S4] [P5 P6 P3 P4]
    · iexists _; iexact HO
    · isplitl [S5]; · iexact S5
      isplitl [S6]; · iexact S6
      isplitl [S3]; · iexact S3
      iexact S4
    · isplitl [P5]; · iexact P5
      isplitl [P6]; · iexact P6
      isplitl [P3]; · iexact P3
      iexact P4
  · rw [dif_neg (fun e => h ((wr_iff c).mp e)), if_neg h, if_neg h]
    iintro ⟨#HR, HO, A5, A6, A3, A4, -, -, ⟨P5, P6⟩, ⟨P3, P4⟩, Hk⟩
    imod (close_none k v c (26 : Fin 28) (K (c, 7)) h) $$ [A5] with S5
    · isplitr; · iapply (rec_inv k v K (c, 7)); iexact HR
      iexact A5
    imod (close_none k v c (27 : Fin 28) (K (c, 8)) h) $$ [A6] with S6
    · isplitr; · iapply (rec_inv k v K (c, 8)); iexact HR
      iexact A6
    imod (close_none k v c (20 : Fin 28) (K (c, 1)) h) $$ [A3] with S3
    · isplitr; · iapply (rec_inv k v K (c, 1)); iexact HR
      iexact A3
    imod (close_none k v c (21 : Fin 28) (K (c, 2)) h) $$ [A4] with S4
    · isplitr; · iapply (rec_inv k v K (c, 2)); iexact HR
      iexact A4
    iapply Hk $$ [HO] [S5 S6 S3 S4] [P5 P6 P3 P4]
    · iexists _; iexact HO
    · isplitl [S5]; · iexact S5
      isplitl [S6]; · iexact S6
      isplitl [S3]; · iexact S3
      iexact S4
    · isplitl [P5]; · iexact P5
      isplitl [P6]; · iexact P6
      isplitl [P3] <;> iassumption

end Cert.KernelIdeal.Halo

end
-- ==== Proof.Attend.lean ====
/-
  The attention of one block of 256 queries, as a program: for each head its scores, weights and weighted sum into the
  context buffer, then the output rows. The kernel's loop and its two last blocks are this program at their offsets.
-/
module

public import proofs.«01_k».proof.Proof.Steps
public import proofs.«01_k».proof.Proof.Common
public import Idealize.ShloMosaic.Lib.VecWindow

@[expose] public section

set_option maxRecDepth 65536

noncomputable section

namespace Cert.KernelIdeal.Halo

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One head: from 256 query rows, 512 key rows and 512 value rows to 256 context rows. -/
def headP (mask : FVec F S256x512 .f32) (q : Vec F S256x128 .bf16) (k v : Vec F S512x128 .bf16) : FVec F S256x128 .bf16 := k0_pay6 mask q k v

/-- The band mask of a block, times whether the key lies in the sequence: `v2` the place on the ring, `w` the block's
    first row. -/
def maskW (v2 w : BitVec 32) : FVec F S256x512 .f32 :=
  mulf k0_pay36 (broadcastTo S256x512 (sitofp .f32 (extui 32
    (andi (cmpi .sge (addi (broadcast S1x512 (Scalar.addi (Scalar.subi (Scalar.muli v2 2048#32) 128#32) w)) (iota .tc S1x512 32 [1] iota_S1x512_d1_w32)) (broadcast S1x512 0#32))
      (cmpi .slt (addi (broadcast S1x512 (Scalar.addi (Scalar.subi (Scalar.muli v2 2048#32) 128#32) w)) (iota .tc S1x512 32 [1] iota_S1x512_d1_w32)) (broadcast S1x512 8192#32)))
    natLt_1_32)) broadcasts_S1x512_S256x512)

/-- The step of one head. -/
def headStep (oq ok oc : Fin 2 → ℕ) (hq : ∀ a, oq a + S256x128.size a ≤ S2048x1024.size a) (hk : ∀ a, ok a + S512x128.size a ≤ S2304x1024.size a)
    (hc : ∀ a, oc a + S256x128.size a ≤ S256x1024.size a) (hst : (cbM.access (Rect.unit (s := S256x1024) oc S256x128.size hc)).Stores Finset.univ)
    (mask : FVec F S256x512 .f32) {α : Type} (p : Prog (TpuEff nD τ sig (Elt F) Λ₀ .tc) α) : Prog (TpuEff nD τ sig (Elt F) Λ₀ .tc) α :=
  .op (.load qbM (Rect.unit (s := S2048x1024) oq S256x128.size hq).toLoadRect (View.loadsAt_vmem h_S256x128)) fun q : Vec F S256x128 .bf16 =>
  .op (.load kbM (Rect.unit (s := S2304x1024) ok S512x128.size hk).toLoadRect (View.loadsAt_vmem h_S512x128)) fun k : Vec F S512x128 .bf16 =>
  .op (.load vbM (Rect.unit (s := S2304x1024) ok S512x128.size hk).toLoadRect (View.loadsAt_vmem h_S512x128)) fun v : Vec F S512x128 .bf16 =>
  .op (.load cbM (Rect.unit (s := S256x1024) oc S256x128.size hc).toLoadRect (View.loadsAt_vmem h_S256x128)) fun _ : Vec F S256x128 .bf16 =>
  .op (.store cbM (Rect.unit (s := S256x1024) oc S256x128.size hc) (headP mask q k v) Finset.univ hst (.inl rfl)) fun _ => p

/-- The output step. -/
def outStep (oo : Fin 3 → ℕ) (ho : ∀ a, oo a + S1x256x1024.size a ≤ S1x2048x1024.size a)
    {α : Type} (p : Prog (TpuEff nD τ sig (Elt F) Λ₀ .tc) α) : Prog (TpuEff nD τ sig (Elt F) Λ₀ .tc) α :=
  .op (.load cbM (Rect.unit (s := S256x1024) ![0, 0] S256x1024.size inb_S256x1024_S256x1024_0_0).toLoadRect (View.loadsAt_vmem h_S256x1024)) fun x : Vec F S256x1024 .bf16 =>
  .op (.load wobM (Rect.unit (s := S1024x1024) ![0, 0] S1024x1024.size inb_S1024x1024_S1024x1024_0_0).toLoadRect (View.loadsAt_vmem h_S1024x1024)) fun w : Vec F S1024x1024 .bf16 =>
  .op (.load oM (Rect.unit (s := S1x2048x1024) oo S1x256x1024.size ho).toLoadRect (View.loadsAt_vmem h_S1x256x1024)) fun _ : Vec F S1x256x1024 .f32 =>
  .op (.store oM (Rect.unit (s := S1x2048x1024) oo S1x256x1024.size ho) (k0_pay38 x w) Finset.univ (View.stores_vmem_bits_univ h_S1x256x1024 rfl) (.inl rfl)) fun _ => p

/-- A block: the eight heads and the output. -/
def blockStep (oq ok : Fin 8 → Fin 2 → ℕ) (hq : ∀ h a, oq h a + S256x128.size a ≤ S2048x1024.size a) (hk : ∀ h a, ok h a + S512x128.size a ≤ S2304x1024.size a)
    (oo : Fin 3 → ℕ) (ho : ∀ a, oo a + S1x256x1024.size a ≤ S1x2048x1024.size a) (mask : FVec F S256x512 .f32)
    {α : Type} (p : Prog (TpuEff nD τ sig (Elt F) Λ₀ .tc) α) : Prog (TpuEff nD τ sig (Elt F) Λ₀ .tc) α :=
  headStep (oq 0) (ok 0) ![0, 0] (hq 0) (hk 0) inb_S256x1024_S256x128_0_0
    (View.stores_vmem h_S256x128 ((Memref.isWhole_whole _ : Memref.IsWhole cbM).storeExact_slice rfl _ packedbf16_S256x1024_S256x128_0_0) (fun _ => rfl)) mask <|
  headStep (oq 1) (ok 1) ![0, 128] (hq 1) (hk 1) inb_S256x1024_S256x128_0_128
    (View.stores_vmem h_S256x128 ((Memref.isWhole_whole _ : Memref.IsWhole cbM).storeExact_slice rfl _ packedbf16_S256x1024_S256x128_0_128) (fun _ => rfl)) mask <|
  headStep (oq 2) (ok 2) ![0, 256] (hq 2) (hk 2) inb_S256x1024_S256x128_0_256
    (View.stores_vmem h_S256x128 ((Memref.isWhole_whole _ : Memref.IsWhole cbM).storeExact_slice rfl _ packedbf16_S256x1024_S256x128_0_256) (fun _ => rfl)) mask <|
  headStep (oq 3) (ok 3) ![0, 384] (hq 3) (hk 3) inb_S256x1024_S256x128_0_384
    (View.stores_vmem h_S256x128 ((Memref.isWhole_whole _ : Memref.IsWhole cbM).storeExact_slice rfl _ packedbf16_S256x1024_S256x128_0_384) (fun _ => rfl)) mask <|
  headStep (oq 4) (ok 4) ![0, 512] (hq 4) (hk 4) inb_S256x1024_S256x128_0_512
    (View.stores_vmem h_S256x128 ((Memref.isWhole_whole _ : Memref.IsWhole cbM).storeExact_slice rfl _ packedbf16_S256x1024_S256x128_0_512) (fun _ => rfl)) mask <|
  headStep (oq 5) (ok 5) ![0, 640] (hq 5) (hk 5) inb_S256x1024_S256x128_0_640
    (View.stores_vmem h_S256x128 ((Memref.isWhole_whole _ : Memref.IsWhole cbM).storeExact_slice rfl _ packedbf16_S256x1024_S256x128_0_640) (fun _ => rfl)) mask <|
  headStep (oq 6) (ok 6) ![0, 768] (hq 6) (hk 6) inb_S256x1024_S256x128_0_768
    (View.stores_vmem h_S256x128 ((Memref.isWhole_whole _ : Memref.IsWhole cbM).storeExact_slice rfl _ packedbf16_S256x1024_S256x128_0_768) (fun _ => rfl)) mask <|
  headStep (oq 7) (ok 7) ![0, 896] (hq 7) (hk 7) inb_S256x1024_S256x128_0_896
    (View.stores_vmem h_S256x128 ((Memref.isWhole_whole _ : Memref.IsWhole cbM).storeExact_slice rfl _ packedbf16_S256x1024_S256x128_0_896) (fun _ => rfl)) mask <|
  outStep oo ho p

/-- The offsets of the loop's trips. -/
def loopOq (t : Fin k0_t1_loop.trips) : Fin 8 → Fin 2 → ℕ :=
  ![k0_off1 t, k0_off3 t, k0_off5 t, k0_off7 t, k0_off9 t, k0_off11 t, k0_off13 t, k0_off15 t]
def loopOk (t : Fin k0_t1_loop.trips) : Fin 8 → Fin 2 → ℕ :=
  ![k0_off2 t, k0_off4 t, k0_off6 t, k0_off8 t, k0_off10 t, k0_off12 t, k0_off14 t, k0_off16 t]
theorem loopOq_inb (t : Fin k0_t1_loop.trips) : ∀ h a, loopOq t h a + S256x128.size a ≤ S2048x1024.size a := by
  intro h; fin_cases h
  exacts [k0_off1_inb t, k0_off3_inb t, k0_off5_inb t, k0_off7_inb t, k0_off9_inb t, k0_off11_inb t, k0_off13_inb t, k0_off15_inb t]
theorem loopOk_inb (t : Fin k0_t1_loop.trips) : ∀ h a, loopOk t h a + S512x128.size a ≤ S2304x1024.size a := by
  intro h; fin_cases h
  exacts [k0_off2_inb t, k0_off4_inb t, k0_off6_inb t, k0_off8_inb t, k0_off10_inb t, k0_off12_inb t, k0_off14_inb t, k0_off16_inb t]

/-- Block `t`'s corners: row `256 t`, column `128 h`. -/
def corner (t : ℕ) : Fin 8 → Fin 2 → ℕ := fun h => ![256 * t, 128 * h.val]

theorem loopOq_eq (t : Fin k0_t1_loop.trips) : loopOq t = corner (t.val + 1) := by
  revert t; decide
theorem loopOk_eq (t : Fin k0_t1_loop.trips) : loopOk t = corner (t.val + 1) := by
  revert t; decide
theorem loopOo_eq (t : Fin k0_t1_loop.trips) : k0_off17 t = ![0, 256 * (t.val + 1), 0] := by
  revert t; decide

theorem corner_inbq (t : ℕ) (ht : t < 8) : ∀ h a, corner t h a + S256x128.size a ≤ S2048x1024.size a := by
  intro h a
  match a with
  | ⟨0, _⟩ => show 256 * t + 256 ≤ 2048; omega
  | ⟨1, _⟩ => show 128 * h.val + 128 ≤ 1024; omega
theorem corner_inbk (t : ℕ) (ht : t < 8) : ∀ h a, corner t h a + S512x128.size a ≤ S2304x1024.size a := by
  intro h a
  match a with
  | ⟨0, _⟩ => show 256 * t + 512 ≤ 2304; omega
  | ⟨1, _⟩ => show 128 * h.val + 128 ≤ 1024; omega

set_option maxHeartbeats 4000000 in
/-- One trip of the loop is one block. -/
theorem trip_eq (c : Dev nD) (v2 : BitVec 32) (v3 v4 : BitVec 1) (v6 v8 v340 : BitVec 32) (t : Fin k0_t1_loop.trips) :
    k0_t1_body (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS c v2 v3 v4 v6 v8 v340 (iota .tc S1x512 32 [1] iota_S1x512_d1_w32) t ()
      = blockStep (loopOq t) (loopOk t) (loopOq_inb t) (loopOk_inb t) (k0_off17 t) (k0_off17_inb t)
          (maskW v2 (Scalar.muli (Scf.iv 1#32 1#32 t) 256#32)) (pure ()) := by
  unfold k0_t1_body
  rw [k0_part1_eq_skeleton, k0_part2_eq_skeleton, k0_part3_eq_skeleton, k0_part4_eq_skeleton]
  rfl

/-- What follows the waits: the first block and the last. -/
def lastBlocks (v2 : BitVec 32) (r : Σ' (v350 : FVec F S256x512 .f32) (v351 : IVec S1x512 32), IVec S1x512 32) : Prog (TpuEff nD τ sig (Elt F) Λ₀ .tc) PUnit :=
  match r with
  | ⟨v350, v351, v367⟩ => do
    let ⟨v370, v403⟩ : Σ' (v370 : FVec F S256x512 .f32), FVec F S256x128 .bf16 ← k0_part19_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v350 v367
    let v438 : FVec F S256x128 .f32 ← k0_part20_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v370 v403
    let ⟨v469, v472⟩ : Σ' (v469 : FVec F S256x1 .f32), FVec F S256x128 .f32 ← k0_part21_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v370 v438
    let ⟨v505, v506, v507⟩ : Σ' (v505 : FVec F S256x1 .f32) (v506 : Vec F S512x128 .bf16), FVec F S256x512 .bf16 ← k0_part22_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v370 v469 v472
    let ⟨v534, v539, v541, v542⟩ : Σ' (v534 : FVec F S256x512 .f32) (v539 : FVec F S256x512 .f32) (v541 : FVec F S256x1 .f32), FVec F S256x1 .f32 ← k0_part23_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v2 v350 v351 v505 v506 v507
    let ⟨v575, v577⟩ : Σ' (v575 : FVec F S256x512 .f32), FVec F S256x1 .f32 ← k0_part24_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v534 v539 v541 v542
    let v611 : FVec F S256x512 .f32 ← k0_part25_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v534 v575 v577
    let v646 : FVec F S256x512 .f32 ← k0_part26_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v534 v611
    let ⟨v679, v680, cst_578⟩ : Σ' (v679 : Vec F S256x1024 .bf16) (v680 : Vec F S1024x1024 .bf16), FVec F S256x1024 .f32 ← k0_part27_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v534 v646
    let v682 : Vec F S1x256x1024 .f32 ← Prog.lift (.load oM (Rect.unit (s := S1x2048x1024) ![0, 1792, 0] S1x256x1024.size inb_S1x2048x1024_S1x256x1024_0_1792_0).toLoadRect (View.loadsAt_vmem h_S1x256x1024))
    Prog.lift (.store oM (Rect.unit (s := S1x2048x1024) ![0, 1792, 0] S1x256x1024.size inb_S1x2048x1024_S1x256x1024_0_1792_0) (k0_pay1 v679 v680 cst_578) Finset.univ (View.stores_vmem_bits_univ h_S1x256x1024 rfl) (.inl rfl))
    pure ⟨⟩

set_option maxHeartbeats 4000000 in
theorem lastBlocks_eq (v2 : BitVec 32) :
    lastBlocks (F := F) v2 ⟨k0_pay36 (F := F), iota .tc S1x512 32 [1] iota_S1x512_d1_w32, k0_pay39 v2⟩
      = blockStep (corner 0) (corner 0) (corner_inbq 0 (by omega)) (corner_inbk 0 (by omega)) ![0, 0, 0] inb_S1x2048x1024_S1x256x1024_0_0_0 (maskW v2 0#32)
        (blockStep (corner 7) (corner 7) (corner_inbq 7 (by omega)) (corner_inbk 7 (by omega)) ![0, 1792, 0] inb_S1x2048x1024_S1x256x1024_0_1792_0 (maskW v2 1792#32)
          (pure ⟨⟩)) := rfl

end Cert.KernelIdeal.Halo

end
-- ==== Proof.Blocks.lean ====
/-
  What one block of 256 queries computes, and that the block's program computes it.
-/
module

public import proofs.«01_k».proof.Proof.Attend

@[expose] public section

set_option maxRecDepth 16384

noncomputable section

namespace Cert.KernelIdeal.Halo

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Values -/

/-- The query rows of block `t`, head `h`; the key (or value) rows that they see. -/
def blkQ (f : Vec F S2048x1024 .bf16) (t h : Fin 8) : Vec F S256x128 .bf16 := fun z =>
  f (ix2 (⟨256 * t.val + (z 0).val, by have : (z 0).val < 256 := (z 0).isLt; omega⟩ : Fin 2048)
    (⟨128 * h.val + (z 1).val, by have : (z 1).val < 128 := (z 1).isLt; omega⟩ : Fin 1024))
def blkK (f : Vec F S2304x1024 .bf16) (t h : Fin 8) : Vec F S512x128 .bf16 := fun z =>
  f (ix2 (⟨256 * t.val + (z 0).val, by have : (z 0).val < 512 := (z 0).isLt; omega⟩ : Fin 2304)
    (⟨128 * h.val + (z 1).val, by have : (z 1).val < 128 := (z 1).isLt; omega⟩ : Fin 1024))

/-- The context rows of block `t`: head by head, 128 columns each. -/
def ctxB (mask : FVec F S256x512 .f32) (Q : Vec F S2048x1024 .bf16) (K V : Vec F S2304x1024 .bf16) (t : Fin 8) : Vec F S256x1024 .bf16 := fun y =>
  headP mask (blkQ Q t ⟨(y 1).val / 128, by have : (y 1).val < 1024 := (y 1).isLt; omega⟩)
    (blkK K t ⟨(y 1).val / 128, by have : (y 1).val < 1024 := (y 1).isLt; omega⟩)
    (blkK V t ⟨(y 1).val / 128, by have : (y 1).val < 1024 := (y 1).isLt; omega⟩)
    (ix2 (y 0) (⟨(y 1).val % 128, Nat.mod_lt _ (by omega)⟩ : Fin 128))

/-- The mask of block `t` on a device at place `v2` of the ring. -/
def maskB (v2 : BitVec 32) (t : Fin 8) : FVec F S256x512 .f32 := maskW v2 (BitVec.ofNat 32 (256 * t.val))

/-- The whole result of a device: row `256 t + r` from block `t`. -/
def outB (v2 : BitVec 32) (Q : Vec F S2048x1024 .bf16) (K V : Vec F S2304x1024 .bf16) (W : Vec F S1024x1024 .bf16) : Vec F S1x2048x1024 .f32 := fun y =>
  k0_pay38 (ctxB (maskB v2 ⟨(y 1).val / 256, by have : (y 1).val < 2048 := (y 1).isLt; omega⟩) Q K V
      ⟨(y 1).val / 256, by have : (y 1).val < 2048 := (y 1).isLt; omega⟩) W
    (ix3 (y 0) (⟨(y 1).val % 256, Nat.mod_lt _ (by omega)⟩ : Fin 256) (y 2))

/-! ## Reads -/

theorem read_q (f : Vec F S2048x1024 .bf16) (t h : Fin 8) (inb) :
    qbM.view.readAt (Elt F) (Rect.unit (s := S2048x1024) ![256 * t.val, 128 * h.val] S256x128.size inb).toLoadRect f = blkQ f t h := by
  funext z
  show f _ = f _
  refine congrArg f ((eq_ix2 _).trans ?_)
  exact congrArg₂ ix2 (Fin.ext (show 256 * t.val + 1 * (z 0).val = _ by rw [Nat.one_mul])) (Fin.ext (show 128 * h.val + 1 * (z 1).val = _ by rw [Nat.one_mul]))
theorem read_k (f : Vec F S2304x1024 .bf16) (t h : Fin 8) (inb) :
    kbM.view.readAt (Elt F) (Rect.unit (s := S2304x1024) ![256 * t.val, 128 * h.val] S512x128.size inb).toLoadRect f = blkK f t h := by
  funext z
  show f _ = f _
  refine congrArg f ((eq_ix2 _).trans ?_)
  exact congrArg₂ ix2 (Fin.ext (show 256 * t.val + 1 * (z 0).val = _ by rw [Nat.one_mul])) (Fin.ext (show 128 * h.val + 1 * (z 1).val = _ by rw [Nat.one_mul]))
theorem read_v (f : Vec F S2304x1024 .bf16) (t h : Fin 8) (inb) :
    vbM.view.readAt (Elt F) (Rect.unit (s := S2304x1024) ![256 * t.val, 128 * h.val] S512x128.size inb).toLoadRect f = blkK f t h := by
  funext z
  show f _ = f _
  refine congrArg f ((eq_ix2 _).trans ?_)
  exact congrArg₂ ix2 (Fin.ext (show 256 * t.val + 1 * (z 0).val = _ by rw [Nat.one_mul])) (Fin.ext (show 128 * h.val + 1 * (z 1).val = _ by rw [Nat.one_mul]))

/-- A window of rows inside `lo … hi` reads only those rows. -/
theorem window_rows {a b lo hi : ℕ} (inb : ∀ i, (![a, b] : Fin 2 → ℕ) i + S512x128.size i ≤ S2304x1024.size i) (hlo : lo ≤ a) (hhi : a + 512 ≤ hi) :
    (Rect.unit (s := S2304x1024) ![a, b] S512x128.size inb).set ⊆ rows lo hi := by
  intro y hy
  have h0 := (Rect.mem_set_unit (inb := inb)).mp hy 0
  have h1 : a ≤ (y 0).val := h0.1
  have h2 : (y 0).val < a + 512 := h0.2
  exact mem_rows.mpr ⟨by omega, by omega⟩

theorem setOn_k (M : Finset S2304x1024.Idx) : kbM.view.setOn M = M := by
  ext i; constructor
  · intro h; obtain ⟨x, hx, rfl⟩ := Finset.mem_map.mp h; exact hx
  · intro h; exact Finset.mem_map.mpr ⟨i, h, rfl⟩
theorem setOn_v (M : Finset S2304x1024.Idx) : vbM.view.setOn M = M := by
  ext i; constructor
  · intro h; obtain ⟨x, hx, rfl⟩ := Finset.mem_map.mp h; exact hx
  · intro h; exact Finset.mem_map.mpr ⟨i, h, rfl⟩

/-! ## Writes -/

theorem write_c (f : Vec F S256x1024 .bf16) (h : Fin 8) (inb : ∀ i, (![0, 128 * h.val] : Fin 2 → ℕ) i + S256x128.size i ≤ S256x1024.size i) (w : Vec F S256x128 .bf16) (y : S256x1024.Idx) :
    ((cbM.access (Rect.unit (s := S256x1024) ![0, 128 * h.val] S256x128.size inb)).write (Elt F) f w Finset.univ : Vec F S256x1024 .bf16) y
      = if (y 1).val / 128 = h.val then w (ix2 (y 0) (⟨(y 1).val % 128, Nat.mod_lt _ (by omega)⟩ : Fin 128)) else f y := by
  have h1 : (y 1).val < 1024 := (y 1).isLt
  by_cases hy : (y 1).val / 128 = h.val
  · rw [if_pos hy]
    have e : y = (cbM.access (Rect.unit (s := S256x1024) ![0, 128 * h.val] S256x128.size inb)).emb
        (ix2 (y 0) (⟨(y 1).val % 128, Nat.mod_lt _ (by omega)⟩ : Fin 128)) := by
      refine (eq_ix2 y).trans (Eq.symm ((eq_ix2 _).trans ?_))
      exact congrArg₂ ix2 (Fin.ext (show 0 + 1 * (y 0).val = (y 0).val by omega)) (Fin.ext (show 128 * h.val + 1 * ((y 1).val % 128) = (y 1).val by omega))
    conv_lhs => rw [e]
    rw [View.write_emb_of_mem _ _ (Finset.mem_univ _)]
    rfl
  · rw [if_neg hy]
    refine View.write_of_not_mem _ _ _ fun hm => hy ?_
    obtain ⟨x, -, e⟩ := Finset.mem_map.mp hm
    have e1 : (y 1).val = 128 * h.val + 1 * (x 1).val := by rw [← e]; rfl
    have hx : (x 1).val < 128 := (x 1).isLt
    omega

theorem write_o (f : Vec F S1x2048x1024 .f32) (t : Fin 8) (inb : ∀ i, (![0, 256 * t.val, 0] : Fin 3 → ℕ) i + S1x256x1024.size i ≤ S1x2048x1024.size i) (w : Vec F S1x256x1024 .f32) (y : S1x2048x1024.Idx) :
    ((oM.access (Rect.unit (s := S1x2048x1024) ![0, 256 * t.val, 0] S1x256x1024.size inb)).write (Elt F) f w Finset.univ : Vec F S1x2048x1024 .f32) y
      = if (y 1).val / 256 = t.val then w (ix3 (y 0) (⟨(y 1).val % 256, Nat.mod_lt _ (by omega)⟩ : Fin 256) (y 2)) else f y := by
  have h1 : (y 1).val < 2048 := (y 1).isLt
  by_cases hy : (y 1).val / 256 = t.val
  · rw [if_pos hy]
    have e : y = (oM.access (Rect.unit (s := S1x2048x1024) ![0, 256 * t.val, 0] S1x256x1024.size inb)).emb
        (ix3 (y 0) (⟨(y 1).val % 256, Nat.mod_lt _ (by omega)⟩ : Fin 256) (y 2)) := by
      funext a
      match a with
      | ⟨0, _⟩ => exact Fin.ext (show (y 0).val = 0 + 1 * (y 0).val by omega)
      | ⟨1, _⟩ => exact Fin.ext (show (y 1).val = 256 * t.val + 1 * ((y 1).val % 256) by omega)
      | ⟨2, _⟩ => exact Fin.ext (show (y 2).val = 0 + 1 * (y 2).val by omega)
    conv_lhs => rw [e]
    rw [View.write_emb_of_mem _ _ (Finset.mem_univ _)]
    rfl
  · rw [if_neg hy]
    refine View.write_of_not_mem _ _ _ fun hm => hy ?_
    obtain ⟨x, -, e⟩ := Finset.mem_map.mp hm
    have e1 : (y 1).val = 256 * t.val + 1 * (x 1).val := by rw [← e]; rfl
    have hx : (x 1).val < 256 := (x 1).isLt
    omega

/-! ## The steps -/

/-- The buffers that a block reads: the queries whole, the keys and values in rows `lo … hi`. -/
def qkv (c : Dev nD) (lo hi : ℕ) (Q : Vec F S2048x1024 .bf16) (K V : Vec F S2304x1024 .bf16) : sProp 𝕄 :=
  iprop(pt c qbM Q ∗ pcK c lo hi K ∗ pcV c lo hi V)

/-- The context buffer with its first `n` heads done. -/
def ctxAt (c : Dev nD) (g : Vec F S256x1024 .bf16) (n : ℕ) : sProp 𝕄 :=
  iprop(∃ f : Vec F S256x1024 .bf16, ⌜∀ y : S256x1024.Idx, (y 1).val < 128 * n → f y = g y⌝ ∗ pt c cbM f)

theorem wp_head (c : Dev nD) (t h : Fin 8) {lo hi : ℕ} (hlo : lo ≤ 256 * t.val) (hhi : 256 * t.val + 512 ≤ hi)
    (Q : Vec F S2048x1024 .bf16) (K V : Vec F S2304x1024 .bf16) (mask : FVec F S256x512 .f32)
    {oq ok oc : Fin 2 → ℕ} (eq : oq = ![256 * t.val, 128 * h.val]) (ek : ok = ![256 * t.val, 128 * h.val]) (ec : oc = ![0, 128 * h.val]) (hq) (hk) (hc) (hst)
    {α : Type} (p : Prog (TpuEff nD τ sig (Elt F) Λ₀ .tc) α) (R : α → sProp 𝕄) :
    iprop(qkv c lo hi Q K V ∗ ctxAt c (ctxB mask Q K V t) h.val
        ∗ (qkv c lo hi Q K V -∗ ctxAt c (ctxB mask Q K V t) (h.val + 1) -∗ wp frame (wpE (defs₀ (F := F)) 𝒱₀ c none) Set.univ p R))
      ⊢ wp frame (wpE (defs₀ (F := F)) 𝒱₀ c none) Set.univ (headStep oq ok oc hq hk hc hst mask p) R := by
  subst eq ek ec
  unfold headStep qkv ctxAt
  iintro ⟨⟨HQ, HK, HV⟩, ⟨%f, %hf, HC⟩, Hk⟩
  iapply (wp_load 𝒱₀ c none Set.univ (m := qbM) (Finset.subset_univ _)) $$ HQ
  iintro HQ
  iapply (wp_load 𝒱₀ c none Set.univ (m := kbM) (S := rows lo hi) (by rw [setOn_k]; exact window_rows hk hlo hhi)) $$ HK
  iintro HK
  iapply (wp_load 𝒱₀ c none Set.univ (m := vbM) (S := rows lo hi) (by rw [setOn_v]; exact window_rows hk hlo hhi)) $$ HV
  iintro HV
  iapply (wp_load 𝒱₀ c none Set.univ (m := cbM) (Finset.subset_univ _)) $$ HC
  iintro HC
  iapply (wp_store 𝒱₀ c none Set.univ (m := cbM) (r := Rect.unit (s := S256x1024) ![0, 128 * h.val] S256x128.size hc) (f := f) (Finset.subset_univ _)) $$ [HC]
  · iexact HC
  iintro HC
  iapply Hk $$ [HQ HK HV]
  · isplitl [HQ]; · iexact HQ
    isplitl [HK] <;> iassumption
  iexists _
  isplitr
  rotate_left
  · iexact HC
  · ipureintro
    intro y hy
    rw [read_q, read_k, read_v, write_c]
    by_cases e : (y 1).val / 128 = h.val
    · rw [if_pos e]
      have e' : (⟨(y 1).val / 128, by have : (y 1).val < 1024 := (y 1).isLt; omega⟩ : Fin 8) = h := Fin.ext e
      unfold ctxB
      rw [e']
    · rw [if_neg e]
      exact hf y (by omega)

/-- The result buffer with the blocks of `S` done. -/
def outAt (c : Dev nD) (g : Vec F S1x2048x1024 .f32) (S : ℕ → Prop) : sProp 𝕄 :=
  iprop(∃ f : Vec F S1x2048x1024 .f32, ⌜∀ y : S1x2048x1024.Idx, S ((y 1).val / 256) → f y = g y⌝ ∗ pt c oM f)

theorem wp_out (c : Dev nD) (t : Fin 8) (g : Vec F S256x1024 .bf16) (W : Vec F S1024x1024 .bf16) (G : Vec F S1x2048x1024 .f32) (S : ℕ → Prop)
    (hG : ∀ y : S1x2048x1024.Idx, (y 1).val / 256 = t.val → G y = k0_pay38 g W (ix3 (y 0) (⟨(y 1).val % 256, Nat.mod_lt _ (by omega)⟩ : Fin 256) (y 2)))
    {oo : Fin 3 → ℕ} (eo : oo = ![0, 256 * t.val, 0]) (ho)
    {α : Type} (p : Prog (TpuEff nD τ sig (Elt F) Λ₀ .tc) α) (R : α → sProp 𝕄) :
    iprop(ctxAt c g 8 ∗ pt c wobM W ∗ outAt c G S
        ∗ (iprop(∃ f, pt c cbM f) -∗ pt c wobM W -∗ outAt c G (fun n => S n ∨ n = t.val) -∗ wp frame (wpE (defs₀ (F := F)) 𝒱₀ c none) Set.univ p R))
      ⊢ wp frame (wpE (defs₀ (F := F)) 𝒱₀ c none) Set.univ (outStep oo ho p) R := by
  subst eo
  unfold outStep ctxAt outAt
  iintro ⟨⟨%f, %hf, HC⟩, HW, ⟨%o, %hO, HO⟩, Hk⟩
  have ef : f = g := funext fun y => hf y (show (y 1).val < 1024 from (y 1).isLt)
  subst ef
  iapply (wp_load 𝒱₀ c none Set.univ (m := cbM) (Finset.subset_univ _)) $$ HC
  iintro HC
  iapply (wp_load 𝒱₀ c none Set.univ (m := wobM) (Finset.subset_univ _)) $$ HW
  iintro HW
  iapply (wp_load 𝒱₀ c none Set.univ (m := oM) (Finset.subset_univ _)) $$ HO
  iintro HO
  iapply (wp_store 𝒱₀ c none Set.univ (m := oM) (r := Rect.unit (s := S1x2048x1024) ![0, 256 * t.val, 0] S1x256x1024.size ho) (f := o) (Finset.subset_univ _)) $$ [HO]
  · iexact HO
  iintro HO
  iapply Hk $$ [HC] HW
  · iexists _; iexact HC
  iexists _
  isplitr
  rotate_left
  · iexact HO
  · ipureintro
    intro y hy
    rw [View.readAt_full, View.readAt_full, write_o]
    by_cases e : (y 1).val / 256 = t.val
    · rw [if_pos e, hG y e]; rfl
    · rw [if_neg e]
      exact hO y (hy.resolve_right e)

/-- One block. -/
theorem wp_block (c : Dev nD) (t : Fin 8) {lo hi : ℕ} (hlo : lo ≤ 256 * t.val) (hhi : 256 * t.val + 512 ≤ hi) (v2 : BitVec 32)
    (Q : Vec F S2048x1024 .bf16) (K V : Vec F S2304x1024 .bf16) (W : Vec F S1024x1024 .bf16) (S : ℕ → Prop)
    {oq ok : Fin 8 → Fin 2 → ℕ} (eq : oq = corner t.val) (ek : ok = corner t.val) {oo : Fin 3 → ℕ} (eo : oo = ![0, 256 * t.val, 0]) (hq) (hk) (ho)
    {mask : FVec F S256x512 .f32} (em : mask = maskB v2 t)
    {α : Type} (p : Prog (TpuEff nD τ sig (Elt F) Λ₀ .tc) α) (R : α → sProp 𝕄) :
    iprop(qkv c lo hi Q K V ∗ iprop(∃ f, pt c cbM f) ∗ pt c wobM W ∗ outAt c (outB v2 Q K V W) S
        ∗ (qkv c lo hi Q K V -∗ iprop(∃ f, pt c cbM f) -∗ pt c wobM W -∗ outAt c (outB v2 Q K V W) (fun n => S n ∨ n = t.val)
            -∗ wp frame (wpE (defs₀ (F := F)) 𝒱₀ c none) Set.univ p R))
      ⊢ wp frame (wpE (defs₀ (F := F)) 𝒱₀ c none) Set.univ (blockStep oq ok hq hk oo ho mask p) R := by
  subst eq ek em
  unfold blockStep
  iintro ⟨HQ, ⟨%f, HC⟩, HW, HO, Hk⟩
  ihave HC := (show pt c cbM f ⊢ ctxAt c (ctxB (maskB v2 t) Q K V t) (0 : Fin 8).val from by
    unfold ctxAt; iintro H; iexists f; isplitr
    · ipureintro; intro y hy; exact absurd hy (Nat.not_lt_zero _)
    · iexact H) $$ HC
  iapply (wp_head c t 0 hlo hhi Q K V (maskB v2 t) rfl rfl rfl _ _ _ _ _ R)
  isplitl [HQ]; · iexact HQ
  isplitl [HC]; · iexact HC
  iintro HQ HC
  iapply (wp_head c t 1 hlo hhi Q K V (maskB v2 t) rfl rfl rfl _ _ _ _ _ R)
  isplitl [HQ]; · iexact HQ
  isplitl [HC]; · iexact HC
  iintro HQ HC
  iapply (wp_head c t 2 hlo hhi Q K V (maskB v2 t) rfl rfl rfl _ _ _ _ _ R)
  isplitl [HQ]; · iexact HQ
  isplitl [HC]; · iexact HC
  iintro HQ HC
  iapply (wp_head c t 3 hlo hhi Q K V (maskB v2 t) rfl rfl rfl _ _ _ _ _ R)
  isplitl [HQ]; · iexact HQ
  isplitl [HC]; · iexact HC
  iintro HQ HC
  iapply (wp_head c t 4 hlo hhi Q K V (maskB v2 t) rfl rfl rfl _ _ _ _ _ R)
  isplitl [HQ]; · iexact HQ
  isplitl [HC]; · iexact HC
  iintro HQ HC
  iapply (wp_head c t 5 hlo hhi Q K V (maskB v2 t) rfl rfl rfl _ _ _ _ _ R)
  isplitl [HQ]; · iexact HQ
  isplitl [HC]; · iexact HC
  iintro HQ HC
  iapply (wp_head c t 6 hlo hhi Q K V (maskB v2 t) rfl rfl rfl _ _ _ _ _ R)
  isplitl [HQ]; · iexact HQ
  isplitl [HC]; · iexact HC
  iintro HQ HC
  iapply (wp_head c t 7 hlo hhi Q K V (maskB v2 t) rfl rfl rfl _ _ _ _ _ R)
  isplitl [HQ]; · iexact HQ
  isplitl [HC]; · iexact HC
  iintro HQ HC
  iapply (wp_out c t (ctxB (maskB v2 t) Q K V t) W (outB v2 Q K V W) S (fun y e => by
    have e' : (⟨(y 1).val / 256, by have : (y 1).val < 2048 := (y 1).isLt; omega⟩ : Fin 8) = t := Fin.ext e
    unfold outB; rw [e']) eo _ p R)
  isplitl [HC]; · iexact HC
  isplitl [HW]; · iexact HW
  isplitl [HO]; · iexact HO
  iintro HC HW HO
  iapply Hk $$ HQ HC HW HO

end Cert.KernelIdeal.Halo

end
-- ==== Proof.Body.lean ====
/-
  The kernel's body on one device: the straight part, the exchange, the blocks.
-/
module

public import proofs.«01_k».proof.Proof.PhaseA
public import proofs.«01_k».proof.Proof.Exchange
public import proofs.«01_k».proof.Proof.Blocks

@[expose] public section

set_option maxRecDepth 16384

noncomputable section

namespace Cert.KernelIdeal.Halo

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem wp_done (c : Dev nD) {α : Type} (a : α) (Q : α → sProp 𝕄) :
    Q a ⊢ wp frame (wpE (defs₀ (F := F)) 𝒱₀ c none) Set.univ (Pure.pure a : Prog (TpuEff nD τ sig (Elt F) Λ₀ .tc) α) Q := by
  show _ ⊢ wp frame (wpE (defs₀ (F := F)) 𝒱₀ c none) Set.univ (.ret a) Q
  rw [wp_ret]
  exact fupd_intro

/-! ## The loop -/

theorem outAt_mono (c : Dev nD) (g : Vec F S1x2048x1024 .f32) {S T : ℕ → Prop} (h : ∀ n, T n → S n) : outAt c g S ⊢ outAt c g T := by
  unfold outAt
  iintro ⟨%f, %hf, H⟩
  iexists f
  isplitr
  · ipureintro; exact fun y hy => hf y (h _ hy)
  · iexact H

theorem loop_row (t : Fin k0_t1_loop.trips) : Scalar.muli (Scf.iv 1#32 1#32 t) 256#32 = BitVec.ofNat 32 (256 * (t.val + 1)) := by
  revert t; decide
theorem trips_eq : k0_t1_loop.trips = 6 := by decide

/-- What the loop keeps: blocks `1 … n` done after `n` trips. -/
def loopInv (c : Dev nD) (v2 : BitVec 32) (Q : Vec F S2048x1024 .bf16) (K V : Vec F S2304x1024 .bf16) (W : Vec F S1024x1024 .bf16) (n : ℕ) : sProp 𝕄 :=
  iprop(qkv c 256 2048 Q K V ∗ iprop(∃ f, pt c cbM f) ∗ pt c wobM W ∗ outAt c (outB v2 Q K V W) (fun b => 1 ≤ b ∧ b ≤ n))

theorem wp_trip (c : Dev nD) (v2 : BitVec 32) (v3 v4 : BitVec 1) (v6 v8 v340 : BitVec 32)
    (Q : Vec F S2048x1024 .bf16) (K V : Vec F S2304x1024 .bf16) (W : Vec F S1024x1024 .bf16) (t : Fin k0_t1_loop.trips) (a : Unit) :
    loopInv c v2 Q K V W t.val ⊢ wp frame (wpE (defs₀ (F := F)) 𝒱₀ c none) Set.univ
      (k0_t1_body (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS c v2 v3 v4 v6 v8 v340 (iota .tc S1x512 32 [1] iota_S1x512_d1_w32) t a) (fun _ => loopInv c v2 Q K V W (t.val + 1)) := by
  obtain ⟨⟩ := a
  have ht : t.val < 6 := lt_of_lt_of_eq t.isLt trips_eq
  rw [trip_eq]
  unfold loopInv
  iintro ⟨HQ, HC, HW, HO⟩
  iapply (wp_block c ⟨t.val + 1, by omega⟩ (lo := 256) (hi := 2048) (show 256 ≤ 256 * (t.val + 1) by omega) (show 256 * (t.val + 1) + 512 ≤ 2048 by omega)
    v2 Q K V W _ (loopOq_eq t) (loopOk_eq t) (loopOo_eq t) (loopOq_inb t) (loopOk_inb t) (k0_off17_inb t) (by rw [loop_row]; rfl) (Pure.pure ()) _)
  isplitl [HQ]; · iexact HQ
  isplitl [HC]; · iexact HC
  isplitl [HW]; · iexact HW
  isplitl [HO]; · iexact HO
  iintro HQ HC HW HO
  iapply (wp_done c _ _)
  isplitl [HQ]; · iexact HQ
  isplitl [HC]; · iexact HC
  isplitl [HW]; · iexact HW
  iapply (outAt_mono c _ (S := fun n => (1 ≤ n ∧ n ≤ t.val) ∨ n = t.val + 1) (fun n hn => by omega)) $$ HO

/-! ## The body -/

/-- The program, part by part. -/
def bodyChain : Prog (TpuEff nD τ sig (Elt F) Λ₀ .tc) PUnit :=
  k0_part5_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS >>= fun r => k0_part6_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS >>= fun _ => k0_part7_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS >>= fun _ => k0_part8_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS >>= fun _ =>
  k0_part9_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS >>= fun _ => k0_part10_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS >>= fun _ => k0_part11_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS >>= fun v179 => k0_part12_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v179 >>= fun v207 =>
  k0_part13_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS v207 >>= fun _ => k0_part14_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS >>= fun _ => k0_part15_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS >>= fun _ => k0_part16_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS >>= fun v312 =>
  k0_part17_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS r.1 r.2.2.1 r.2.2.2.1 r.2.2.2.2.1 r.2.2.2.2.2 v312 >>= fun v340 =>
  k0_part18_skel xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS r.1 r.2.1 r.2.2.1 r.2.2.2.1 r.2.2.2.2.1 r.2.2.2.2.2 v340 >>= fun r' => lastBlocks r.2.1 r'

set_option maxRecDepth 65536 in
theorem body_chain : cc0__body (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS = bodyChain := rfl

variable (k v : Dev nD → Vec F S1x2048x8x128 .f32) (K : Dev nD × Fin 9 → ℕ)

abbrev toksOf (c : Dev nD) : sProp 𝕄 :=
  iprop(dutyTok ER (kcell (prv c, 0)) 0 true ∗ dutyTok ER (kcell (nxt c, 0)) 0 false
    ∗ dutyTok ER (kcell (c, 1)) 0 false ∗ dutyTok ER (kcell (c, 2)) 0 false ∗ dutyTok ER (kcell (c, 3)) 0 false ∗ dutyTok ER (kcell (c, 4)) 0 false
    ∗ dutyTok ER (kcell (nxt c, 5)) 0 false ∗ dutyTok ER (kcell (nxt c, 6)) 0 false ∗ dutyTok ER (kcell (prv c, 7)) 0 false ∗ dutyTok ER (kcell (prv c, 8)) 0 false)
abbrev posOf (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0
    ∗ atPos ER (kcell (c, 5)) 0 ∅ 0 ∗ atPos ER (kcell (c, 6)) 0 ∅ 0 ∗ atPos ER (kcell (c, 7)) 0 ∅ 0 ∗ atPos ER (kcell (c, 8)) 0 ∅ 0)
abbrev credsOf (c : Dev nD) : sProp 𝕄 :=
  iprop(cred (tallyAt (kcell (c, 0)) () (bl c + br c)) ∗ cred (tallyAt (kcell (c, 5)) () (nl c)) ∗ cred (tallyAt (kcell (c, 6)) () (nl c))
    ∗ cred (tallyAt (kcell (c, 7)) () (nr c)) ∗ cred (tallyAt (kcell (c, 8)) () (nr c)))
abbrev exchSems (c : Dev nD) : sProp 𝕄 :=
  iprop(semVal (kcell (c, 1)) 0 ∗ semVal (kcell (c, 2)) 0 ∗ semVal (kcell (c, 3)) 0 ∗ semVal (kcell (c, 4)) 0
    ∗ semVal (kcell (c, 5)) 0 ∗ semVal (kcell (c, 6)) 0 ∗ semVal (kcell (c, 7)) 0 ∗ semVal (kcell (c, 8)) 0)

/-- The place of a device in the ring, as the program computes it. -/
abbrev place (c : Dev nD) : BitVec 32 := Scalar.remsi (Scalar.divsi (Dev.word c) 1#32) 4#32

/-- What a device's result is. -/
def resOf (c : Dev nD) (x : Vec F S1x2048x1024 .f32) (wq wo : Vec F S1024x1024 .f32) : Vec F S1x2048x1024 .f32 :=
  outB (place c) (k0_pay11 x wq) (full k c) (full v c) (k0_pay12 wo)

abbrev bodyIn (c : Dev nD) (W : Waits sig Unit) (x : Vec F S1x2048x1024 .f32) (wq wo : Vec F S1024x1024 .f32) : sProp 𝕄 :=
  iprop(preA c x wq wo (k c) (v c) ∗ (∃ f, pt c cbM f) ∗ (∃ f, pt c oM f) ∗ records k v K ∗ toksOf c ∗ posOf c ∗ credsOf c ∗ owes (c : Thread nD τ) (O₀ c) W)
abbrev bodyOut (c : Dev nD) (x : Vec F S1x2048x1024 .f32) (wq wo : Vec F S1024x1024 .f32) : sProp 𝕄 :=
  iprop(pt c xM x ∗ pt c wqM wq ∗ pt c woM wo ∗ pt c kM (k c) ∗ pt c vM (v c) ∗ pt c oM (resOf k v c x wq wo)
    ∗ ((∃ f, pt c kbM f) ∗ (∃ f, pt c vbM f) ∗ (∃ f, pt c qbM f) ∗ (∃ f, pt c cbM f) ∗ (∃ f, pt c wobM f) ∗ (∃ f, pt c kstM f) ∗ (∃ f, pt c vstM f))
    ∗ copySems c ∗ exchSems c ∗ semVal (kcell (c, 0)) 0 ∗ (∃ W', owes (c : Thread nD τ) 0 W'))

/-- The buffer's rows, whole and in the five pieces that the exchange moves. -/
theorem wholeK (c : Dev nD) (f : Vec F S2304x1024 .bf16) : (pt c kbM f : sProp 𝕄) ⊣⊢ pcK c 0 2304 f :=
  BiEntails.of_eq (by unfold pcK; rw [rows_univ])
theorem cutK (c : Dev nD) (f : Vec F S2304x1024 .bf16) :
    (pt c kbM f : sProp 𝕄) ⊣⊢ iprop(pcK c 0 128 f ∗ pcK c 128 256 f ∗ pcK c 256 2048 f ∗ pcK c 2048 2176 f ∗ pcK c 2176 2304 f) := by
  refine (wholeK c f).trans ?_
  refine (pcK_split c (b := 128) (by omega) (by omega) f).trans (sep_congr .rfl ?_)
  refine (pcK_split c (b := 256) (by omega) (by omega) f).trans (sep_congr .rfl ?_)
  refine (pcK_split c (b := 2048) (by omega) (by omega) f).trans (sep_congr .rfl ?_)
  exact pcK_split c (b := 2176) (by omega) (by omega) f
theorem wholeV (c : Dev nD) (f : Vec F S2304x1024 .bf16) : (pt c vbM f : sProp 𝕄) ⊣⊢ pcV c 0 2304 f :=
  BiEntails.of_eq (by unfold pcV; rw [rows_univ])
theorem cutV (c : Dev nD) (f : Vec F S2304x1024 .bf16) :
    (pt c vbM f : sProp 𝕄) ⊣⊢ iprop(pcV c 0 128 f ∗ pcV c 128 256 f ∗ pcV c 256 2048 f ∗ pcV c 2048 2176 f ∗ pcV c 2176 2304 f) := by
  refine (wholeV c f).trans ?_
  refine (pcV_split c (b := 128) (by omega) (by omega) f).trans (sep_congr .rfl ?_)
  refine (pcV_split c (b := 256) (by omega) (by omega) f).trans (sep_congr .rfl ?_)
  refine (pcV_split c (b := 2048) (by omega) (by omega) f).trans (sep_congr .rfl ?_)
  exact pcV_split c (b := 2176) (by omega) (by omega) f

/-- The device's own rows, as rows of the exchanged buffer. -/
theorem ownK (c : Dev nD) (f : Dev nD → Vec F S1x2048x8x128 .f32) {a b : ℕ} (ha : 128 ≤ a) (hb : b ≤ 2176) : (pcK c a b (extOwn (f c)) : sProp 𝕄) = pcK c a b (full f c) :=
  pcK_congr c fun y h h' => (full_mid f c y (by omega) (by omega)).symm
theorem ownV (c : Dev nD) (f : Dev nD → Vec F S1x2048x8x128 .f32) {a b : ℕ} (ha : 128 ≤ a) (hb : b ≤ 2176) : (pcV c a b (extOwn (f c)) : sProp 𝕄) = pcV c a b (full f c) :=
  pcV_congr c fun y h h' => (full_mid f c y (by omega) (by omega)).symm
/-- Where there is no neighbour the halo stays as it is. -/
theorem endL (c : Dev nD) : (if hasL c then iprop(emp) else iprop(pcK c 0 128 (extOwn (k c)) ∗ pcV c 0 128 (extOwn (v c))) : sProp 𝕄)
    ⊢ if hasL c then iprop(emp) else iprop(pcK c 0 128 (full k c) ∗ pcV c 0 128 (full v c)) := by
  by_cases h : hasL c
  · rw [if_pos h, if_pos h]
  · rw [if_neg h, if_neg h, pcK_congr c (g := full k c) fun y _ h' => (full_lo k c y h h').symm, pcV_congr c (g := full v c) fun y _ h' => (full_lo v c y h h').symm]
theorem endR (c : Dev nD) : (if hasR c then iprop(emp) else iprop(pcK c 2176 2304 (extOwn (k c)) ∗ pcV c 2176 2304 (extOwn (v c))) : sProp 𝕄)
    ⊢ if hasR c then iprop(emp) else iprop(pcK c 2176 2304 (full k c) ∗ pcV c 2176 2304 (full v c)) := by
  by_cases h : hasR c
  · rw [if_pos h, if_pos h]
  · rw [if_neg h, if_neg h, pcK_congr c (g := full k c) fun y h' _ => (full_hi k c y h h').symm, pcV_congr c (g := full v c) fun y h' _ => (full_hi v c y h h').symm]

theorem O₀_eq (c : Dev nD) : O₀ c = (O₁ c + tallyAt (kcell (nxt c, 0)) () (br c)) + tallyAt (kcell (prv c, 0)) () (bl c) := rfl
theorem oL_zero (c : Dev nD) : oL c = 0 + oL c := (zero_add _).symm

set_option maxHeartbeats 1000000 in
theorem wp_body (c : Dev nD) (W : Waits sig Unit) (x : Vec F S1x2048x1024 .f32) (wq wo : Vec F S1024x1024 .f32) (Q : PUnit → sProp 𝕄) :
    iprop(bodyIn k v K c W x wq wo ∗ (bodyOut k v c x wq wo -∗ Q ⟨⟩))
      ⊢ wp frame (wpE (defs₀ (F := F)) 𝒱₀ c none) Set.univ (cc0__body (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) Q := by
  rw [body_chain]
  unfold bodyChain
  simp only [wp_bind]
  iintro ⟨⟨HA, HC, ⟨%o, HO⟩, #HR, ⟨Ht0, Ht1, Ht2, Ht3, Ht4, Ht5, Ht6, Ht7, Ht8, Ht9⟩, ⟨Hp0, Hp1, Hp2, Hp3, Hp4, Hp5, Hp6, Hp7, Hp8⟩, ⟨Hc0, Hc5, Hc6, Hc7, Hc8⟩, Ho⟩, HQ⟩
  iapply (wp_straight c (O₀ c) W (records k v K) (fun q hq => (rec_lev k v K).trans (mayWait_copy c q hq _ (.inl rfl))) x wq wo (k c) (v c) _)
  isplitl [HA]; · iexact HA
  isplitl [Ho]; · iexact Ho
  isplitr; · iexact HR
  iintro ⟨Hx, Hwq, Hwo, Hk, Hv, Hkb, Hvb, Hqb, Hwob, Hks, Hvs, Hcs⟩ ⟨%W1, Ho⟩
  ihave Hkb := (cutK c (extOwn (k c))).1 $$ Hkb
  ihave Hvb := (cutV c (extOwn (v c))).1 $$ Hvb
  icases Hkb with ⟨Hk0, Hk1, Hk2, Hk3, Hk4⟩
  icases Hvb with ⟨Hv0, Hv1, Hv2, Hv3, Hv4⟩
  ihave Hk1 := (Entails.of_eq (ownK c k (a := 128) (b := 256) (by omega) (by omega))) $$ Hk1
  ihave Hk2 := (Entails.of_eq (ownK c k (a := 256) (b := 2048) (by omega) (by omega))) $$ Hk2
  ihave Hk3 := (Entails.of_eq (ownK c k (a := 2048) (b := 2176) (by omega) (by omega))) $$ Hk3
  ihave Hv1 := (Entails.of_eq (ownV c v (a := 128) (b := 256) (by omega) (by omega))) $$ Hv1
  ihave Hv2 := (Entails.of_eq (ownV c v (a := 256) (b := 2048) (by omega) (by omega))) $$ Hv2
  ihave Hv3 := (Entails.of_eq (ownV c v (a := 2048) (b := 2176) (by omega) (by omega))) $$ Hv3
  unfold tail17
  -- the two signals
  iapply (sigL_step k v K c (O₁ c + tallyAt (kcell (nxt c, 0)) () (br c)) W1 (extOwn (k c)) (extOwn (v c)) _ _)
  isplitr; · iexact HR
  isplitl [Ho]; · iexact Ho
  isplitl [Ht0]; · iexact Ht0
  isplitl [Hk0]; · iexact Hk0
  isplitl [Hv0]; · iexact Hv0
  iintro Ho Hel
  ihave Hel := (endL k v c) $$ Hel
  iapply (sigR_step k v K c (O₁ c) W1 (extOwn (k c)) (extOwn (v c)) _ _)
  isplitr; · iexact HR
  isplitl [Ho]; · iexact Ho
  isplitl [Ht1]; · iexact Ht1
  isplitl [Hk4]; · iexact Hk4
  isplitl [Hv4]; · iexact Hv4
  iintro Ho Her
  ihave Her := (endR k v c) $$ Her
  -- the barrier
  iapply (bar_step k v K c (O₁ c) W1 (mayWait_bar c) _ _)
  isplitr; · iexact HR
  isplitl [Ho]; · iexact Ho
  isplitl [Hc0]; · iexact Hc0
  isplitl [Hp0]; · iexact Hp0
  iintro ⟨%W2, Ho⟩ Hs0 HbL HbR
  -- the copies
  iapply (sendsR_step k v K c (oL c) W2 _ _)
  isplitr; · iexact HR
  isplitl [Ho]; · iexact Ho
  isplitl [HbR]; · iexact HbR
  isplitl [Ht2]; · iexact Ht2
  isplitl [Ht3]; · iexact Ht3
  isplitl [Ht6]; · iexact Ht6
  isplitl [Ht7]; · iexact Ht7
  isplitl [Hk3]; · iexact Hk3
  isplitl [Hv3]; · iexact Hv3
  iintro Ho HcR
  iapply (wp_done c _ _)
  dsimp only
  rw [part18_eq]
  iapply (sendsL_step k v K c 0 W2 _ _)
  isplitr; · iexact HR
  isplitl [Ho]; · rw [← oL_zero]; iexact Ho
  isplitl [HbL]; · iexact HbL
  isplitl [Ht4]; · iexact Ht4
  isplitl [Ht5]; · iexact Ht5
  isplitl [Ht8]; · iexact Ht8
  isplitl [Ht9]; · iexact Ht9
  isplitl [Hk1]; · iexact Hk1
  isplitl [Hv1]; · iexact Hv1
  iintro Ho HcL
  -- the loop
  ihave HI := (show iprop(qkv c 256 2048 (k0_pay11 x wq) (full k c) (full v c) ∗ iprop(∃ f, pt c cbM f) ∗ pt c wobM (k0_pay12 wo) ∗ pt c oM o)
      ⊢ loopInv c (place c) (k0_pay11 x wq) (full k c) (full v c) (k0_pay12 wo) 0 from by
    unfold loopInv outAt
    iintro ⟨H1, H2, H3, H4⟩
    isplitl [H1]; · iexact H1
    isplitl [H2]; · iexact H2
    isplitl [H3]; · iexact H3
    iexists o
    isplitr
    · ipureintro; intro y hy; exact absurd hy (by omega)
    · iexact H4) $$ [Hqb Hk2 Hv2 HC Hwob HO]
  · isplitl [Hqb Hk2 Hv2]
    · unfold qkv
      isplitl [Hqb]; · iexact Hqb
      isplitl [Hk2] <;> iassumption
    isplitl [HC]; · iexact HC
    isplitl [Hwob] <;> iassumption
  iapply (Scf.wp_for_bind frame (wpE (defs₀ (F := F)) 𝒱₀ c none) Set.univ _ _ _ k0_t1_ok _ _
    (fun n _ => loopInv c (place c) (k0_pay11 x wq) (full k c) (full v c) (k0_pay12 wo) n)
    (fun t a => wp_trip c (place c) (wl c) (wr c) _ _ _ (k0_pay11 x wq) (full k c) (full v c) (k0_pay12 wo) t a)) $$ HI
  iintro %_ HI
  -- the waits
  iapply (waitsL_step k v K c W2 _ _)
  isplitr; · iexact HR
  isplitl [Ho]; · iexact Ho
  isplitl [Hp5]; · iexact Hp5
  isplitl [Hp6]; · iexact Hp6
  isplitl [Hp3]; · iexact Hp3
  isplitl [Hp4]; · iexact Hp4
  isplitl [Hc5]; · iexact Hc5
  isplitl [Hc6]; · iexact Hc6
  isplitl [Hel]; · iexact Hel
  isplitl [HcL]; · iexact HcL
  iintro ⟨%W3, Ho⟩ ⟨Hs5, Hs6, Hs3, Hs4⟩ ⟨Hk0, Hv0, Hk1, Hv1⟩
  iapply (waitsR_step k v K c W3 _ _)
  isplitr; · iexact HR
  isplitl [Ho]; · iexact Ho
  isplitl [Hp7]; · iexact Hp7
  isplitl [Hp8]; · iexact Hp8
  isplitl [Hp1]; · iexact Hp1
  isplitl [Hp2]; · iexact Hp2
  isplitl [Hc7]; · iexact Hc7
  isplitl [Hc8]; · iexact Hc8
  isplitl [Her]; · iexact Her
  isplitl [HcR]; · iexact HcR
  iintro ⟨%W4, Ho⟩ ⟨Hs7, Hs8, Hs1, Hs2⟩ ⟨Hk4, Hv4, Hk3, Hv3⟩
  iapply (wp_done c _ _)
  rw [lastBlocks_eq]
  -- the last two blocks
  ihave HI := (show loopInv c (place c) (k0_pay11 x wq) (full k c) (full v c) (k0_pay12 wo) k0_t1_loop.trips
      ⊢ iprop((pt c qbM (k0_pay11 x wq) ∗ pcK c 256 2048 (full k c) ∗ pcV c 256 2048 (full v c)) ∗ iprop(∃ f, pt c cbM f) ∗ pt c wobM (k0_pay12 wo)
          ∗ outAt c (resOf k v c x wq wo) (fun b => 1 ≤ b ∧ b ≤ 6)) from by
    unfold loopInv qkv; rw [trips_eq]; exact .rfl) $$ HI
  icases HI with ⟨⟨Hqb, Hk2, Hv2⟩, HC, Hwob, HO⟩
  ihave HkF := (show iprop(pcK c 0 128 (full k c) ∗ pcK c 128 256 (full k c) ∗ pcK c 256 2048 (full k c) ∗ pcK c 2048 2176 (full k c) ∗ pcK c 2176 2304 (full k c))
      ⊢ pcK c 0 2304 (full k c) from (cutK c (full k c)).2.trans (wholeK c (full k c)).1) $$ [Hk0 Hk1 Hk2 Hk3 Hk4]
  · isplitl [Hk0]; · iexact Hk0
    isplitl [Hk1]; · iexact Hk1
    isplitl [Hk2]; · iexact Hk2
    isplitl [Hk3] <;> iassumption
  ihave HvF := (show iprop(pcV c 0 128 (full v c) ∗ pcV c 128 256 (full v c) ∗ pcV c 256 2048 (full v c) ∗ pcV c 2048 2176 (full v c) ∗ pcV c 2176 2304 (full v c))
      ⊢ pcV c 0 2304 (full v c) from (cutV c (full v c)).2.trans (wholeV c (full v c)).1) $$ [Hv0 Hv1 Hv2 Hv3 Hv4]
  · isplitl [Hv0]; · iexact Hv0
    isplitl [Hv1]; · iexact Hv1
    isplitl [Hv2]; · iexact Hv2
    isplitl [Hv3] <;> iassumption
  iapply (wp_block c 0 (lo := 0) (hi := 2304) (by decide) (by decide) (place c) (k0_pay11 x wq) (full k c) (full v c) (k0_pay12 wo) (fun b => 1 ≤ b ∧ b ≤ 6)
    rfl rfl rfl _ _ _ rfl _ _)
  isplitl [Hqb HkF HvF]
  · unfold qkv
    isplitl [Hqb]; · iexact Hqb
    isplitl [HkF] <;> iassumption
  isplitl [HC]; · iexact HC
  isplitl [Hwob]; · iexact Hwob
  isplitl [HO]; · iexact HO
  iintro HF HC Hwob HO
  iapply (wp_block c 7 (lo := 0) (hi := 2304) (by decide) (by decide) (place c) (k0_pay11 x wq) (full k c) (full v c) (k0_pay12 wo) _
    rfl rfl rfl _ _ _ rfl _ _)
  isplitl [HF]; · iexact HF
  isplitl [HC]; · iexact HC
  isplitl [Hwob]; · iexact Hwob
  isplitl [HO]; · iexact HO
  iintro HF HC Hwob HO
  iapply (wp_done c _ _)
  unfold qkv outAt
  icases HF with ⟨Hqb, HkF, HvF⟩
  icases HO with ⟨%g, %hg, HO⟩
  have eg : g = resOf k v c x wq wo := funext fun y => hg y (by have : (y 1).val < 2048 := (y 1).isLt; show ((1 ≤ (y 1).val / 256 ∧ (y 1).val / 256 ≤ 6) ∨ (y 1).val / 256 = 0) ∨ (y 1).val / 256 = 7; omega)
  subst eg
  iapply HQ
  isplitl [Hx]; · iexact Hx
  isplitl [Hwq]; · iexact Hwq
  isplitl [Hwo]; · iexact Hwo
  isplitl [Hk]; · iexact Hk
  isplitl [Hv]; · iexact Hv
  isplitl [HO]; · iexact HO
  isplitl [HkF HvF Hqb HC Hwob Hks Hvs]
  · isplitl [HkF]; · iexists (full k c); iapply (wholeK c (full k c)).2; iexact HkF
    isplitl [HvF]; · iexists (full v c); iapply (wholeV c (full v c)).2; iexact HvF
    isplitl [Hqb]; · iexists _; iexact Hqb
    isplitl [HC]; · iexact HC
    isplitl [Hwob]; · iexists _; iexact Hwob
    isplitl [Hks]; · iexact Hks
    iexact Hvs
  isplitl [Hcs]; · iexact Hcs
  isplitl [Hs1 Hs2 Hs3 Hs4 Hs5 Hs6 Hs7 Hs8]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hs8
  isplitl [Hs0]; · iexact Hs0
  iexists W4; iexact Ho

end Cert.KernelIdeal.Halo

end
-- ==== Proof.Oblig.lean ====
/-
  What a device starts with and ends with, and that its body takes it from one to the other: the obligation of the launch.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.KernelIdeal.Halo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the devices start with -/

/-- Each device's keys and values, and what its windows hold. -/
abbrev kA (c : Dev nD) : Vec F S1x2048x8x128 .f32 := m ((c : Thread nD τ).loc main_arg2)
abbrev vA (c : Dev nD) : Vec F S1x2048x8x128 .f32 := m ((c : Thread nD τ).loc main_arg3)
abbrev xA (c : Dev nD) : Vec F S1x2048x1024 .f32 := (win0_0.blk t0_0).view.read (Elt F) (m ((c : Thread nD τ).loc main_arg0))
abbrev wqA (c : Dev nD) : Vec F S1024x1024 .f32 := (win0_1.blk t0_0).view.read (Elt F) (m ((c : Thread nD τ).loc main_arg1))
abbrev woA (c : Dev nD) : Vec F S1024x1024 .f32 := (win0_2.blk t0_0).view.read (Elt F) (m ((c : Thread nD τ).loc main_arg4))
abbrev outA (c : Dev nD) : Vec F S1x2048x1024 .f32 := resOf (kA m) (vA m) c (xA m c) (wqA m c) (woA m c)

/-- The kernel's own semaphores: the sixteen of the local copies, the sends', the receives'. -/
abbrev osem : Fin 24 → SemLoc sig := fun i => .dma ⟨i.val + 4, by have := i.isLt; show i.val + 4 < 28; omega⟩

def ghost (K : Dev nD × Fin 9 → ℕ) (c : Dev nD) : sProp 𝕄 := iprop(records (kA m) (vA m) K ∗ toksOf c ∗ posOf c)

/-- What a body starts from beside its buffers: the protocol at some names, the credit, its keys and values, the counters
    of the local copies. -/
def start (c : Dev nD) : sProp 𝕄 :=
  iprop((∃ K, ghost m K c) ∗ credsOf c ∗ pt c kM (kA m c) ∗ pt c vM (vA m c) ∗ copySems c)

abbrev scratch (c : Dev nD) : sProp 𝕄 :=
  iprop((∃ f, pt c kbM f) ∗ (∃ f, pt c vbM f) ∗ (∃ f, pt c qbM f) ∗ (∃ f, pt c cbM f) ∗ (∃ f, pt c wobM f) ∗ (∃ f, pt c kstM f) ∗ (∃ f, pt c vstM f))

def Φ₀ (c : Dev nD) : sProp 𝕄 := iprop(start m c ∗ scratch c)
def Φ₁ (c : Dev nD) : sProp 𝕄 :=
  iprop(scratch c ∗ copySems c ∗ exchSems c ∗ semVal (kcell (c, 0)) 0 ∗ pt c kM (kA m c) ∗ pt c vM (vA m c))

def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => wqA m c
    | ⟨2, _⟩ => woA m c
    | ⟨3, _⟩ => outA m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body obligation -/

/-- The device's staging buffer `b`, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop(Φ₁ m c ∗ (dats m 0 c).owesAt () t0_0.succ
    ∗ stg c cc0_stg0_0 (xA m c) ∗ stg c cc0_stg1_0 (wqA m c) ∗ stg c cc0_stg2_0 (woA m c) ∗ stg c cc0_stg3_0 (outA m c))

theorem sound (c : Dev nD) :
    bodyPre m c ⊢ wp frame (wpE (defs₀ (F := F)) 𝒱₀ c none) Set.univ (cc0__body (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun _ => bodyPost m c) := by
  unfold bodyPre Φ₀ start ghost
  iintro ⟨⟨⟨⟨%K, HR, Ht, Hp⟩, Hc, Hk, Hv, Hcs⟩, ⟨Hkb, Hvb, Hqb, Hcb, Hwob, Hks, Hvs⟩⟩, Ho, ⟨%d0, %g0, %h0, Hx⟩, ⟨%d1, %g1, %h1, Hwq⟩, ⟨%d2, %g2, %h2, Hwo⟩, ⟨%d3, %g3, %h3, Hout⟩⟩
  have e0 : g0 = xA m c := by rw [h0]; unfold Dat.before; rw [if_pos (fetch0_0 t0_0)]; rfl
  have e1 : g1 = wqA m c := by rw [h1]; unfold Dat.before; rw [if_pos (fetch0_1 t0_0)]; rfl
  have e2 : g2 = woA m c := by rw [h2]; unfold Dat.before; rw [if_pos (fetch0_2 t0_0)]; rfl
  subst e0 e1 e2
  unfold Dat.owesAt Pipeline.owesWithin
  icases Ho with ⟨%W, %hW, HO⟩
  iapply (wp_body (kA m) (vA m) K c W (xA m c) (wqA m c) (woA m c) (fun _ => bodyPost m c))
  isplitl
  · isplitl [Hx Hwq Hwo Hk Hv Hkb Hvb Hqb Hwob Hks Hvs Hcs]
    · isplitl [Hx]; · iexact Hx
      isplitl [Hwq]; · iexact Hwq
      isplitl [Hwo]; · iexact Hwo
      isplitl [Hk]; · iexact Hk
      isplitl [Hv]; · iexact Hv
      isplitl [Hkb]; · iexact Hkb
      isplitl [Hvb]; · iexact Hvb
      isplitl [Hqb]; · iexact Hqb
      isplitl [Hwob]; · iexact Hwob
      isplitl [Hks]; · iexact Hks
      isplitl [Hvs]; · iexact Hvs
      iexact Hcs
    isplitl [Hcb]; · iexact Hcb
    isplitl [Hout]; · iexists g3; iexact Hout
    isplitl [HR]; · iexact HR
    isplitl [Ht]; · iexact Ht
    isplitl [Hp]; · iexact Hp
    isplitl [Hc]; · iexact Hc
    iexact HO
  · iintro ⟨Hx, Hwq, Hwo, Hk, Hv, Hout, Hscr, Hcs, Hes, Hb, ⟨%W', HO⟩⟩
    unfold bodyPost Φ₁ Dat.owesAt Pipeline.owesWithin
    isplitl [Hscr Hcs Hes Hb Hk Hv]
    · isplitl [Hscr]; · iexact Hscr
      isplitl [Hcs]; · iexact Hcs
      isplitl [Hes]; · iexact Hes
      isplitl [Hb]; · iexact Hb
      isplitl [Hk] <;> iassumption
    isplitl [HO]
    · iexists W'
      isplitr; · ipureintro; exact fun _ _ => Or.inl trivial
      iexact HO
    isplitl [Hx]; · iexists _; isplitr; · (ipureintro; rfl)
                    iexact Hx
    isplitl [Hwq]; · iexists _; isplitr; · (ipureintro; rfl)
                     iexact Hwq
    isplitl [Hwo]; · iexists _; isplitr; · (ipureintro; rfl)
                     iexact Hwo
    iexists _; isplitr; · (ipureintro; rfl)
    iexact Hout

theorem body_obligation (c : Dev nD) : BodyObligation (dats (F := F) m 0 c) (defs₀ (F := F)) 𝒱₀ () Set.univ := fun t => by
  rw [fin_N0 t]
  rw [bigSep_W0, bigSep_W0]
  simp only [owns_stg]
  show bodyPre m c ⊢ wp frame (wpE (defs₀ (F := F)) 𝒱₀ c none) Set.univ (cc0__body (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) qbM (Memref.isWhole_whole _) cbM (Memref.isWhole_whole _) wobM (Memref.isWhole_whole _) kstM (Memref.isWhole_whole _) vstM (Memref.isWhole_whole _) copyS sendS recvS) (fun _ => bodyPost m c)
  exact sound m c

end Cert.KernelIdeal.Halo

end
-- ==== Proof.Launch.lean ====
/-
  The launch: the protocol's cells made and its tokens dealt to the four devices, the credit each starts with, and the
  run of the program from any memory.
-/
module

public import proofs.«01_k».proof.Proof.Oblig
public import Idealize.ShloMosaic.Lib.Pipeline.BigSepL

@[expose] public section

set_option maxRecDepth 16384

noncomputable section

namespace Cert.KernelIdeal.Halo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m 0 c).share w = fullShare := by unfold Dat.share; split <;> rfl

def haloCells : Finset (GSem nD τ sig) := Finset.univ.map ⟨kcell, kcell_injective⟩

/-- The duties of one device's cells: the barrier's two, and one of each other cell. -/
abbrev duty : Fin 10 → Fin 9 × Bool
  | 0 => (0, true) | 1 => (0, false) | 2 => (1, false) | 3 => (2, false) | 4 => (3, false)
  | 5 => (4, false) | 6 => (5, false) | 7 => (6, false) | 8 => (7, false) | 9 => (8, false)
theorem duty_injective : Function.Injective duty := by decide

abbrev tokOf (cj : Dev nD × Fin 10) : GSem nD τ sig × ℕ × Bool := (kcell (cj.1, (duty cj.2).1), 0, (duty cj.2).2)
theorem tokOf_injective : Function.Injective tokOf := by
  rintro ⟨c, j⟩ ⟨d, i⟩ h
  have hk := Prod.mk.inj (kcell_injective (congrArg Prod.fst h))
  have hb : (duty j).2 = (duty i).2 := congrArg (fun x => x.2.2) h
  rw [Prod.mk.injEq]
  exact ⟨hk.1, duty_injective (Prod.ext hk.2 hb)⟩
def haloToks : Finset (GSem nD τ sig × ℕ × Bool) := Finset.univ.map ⟨tokOf, tokOf_injective⟩

def u₀ : UU :=
  (initOf (Pipeline.cells cfgs cellOf_inj) (Pipeline.launchToks cfgs cellOf_inj), (initOf haloCells haloToks, 1))

/-- The tokens of one device's cells, before they are dealt. -/
def toks (c : Dev nD) : sProp 𝕄 := bigSep Finset.univ fun j : Fin 10 => dutyTok ER (kcell (c, (duty j).1)) 0 (duty j).2

def posAt (c : Dev nD) : sProp 𝕄 :=
  bigSep Finset.univ fun j : Fin 9 => iprop(atPos ER (kcell (c, j)) 0 ∅ 0 ∗ reached ER (kcell (c, j)) 0)

def G (c : Dev nD) : sProp 𝕄 :=
  iprop((bigSep Finset.univ fun j : Fin 9 => roundState ER (haloRd (kA m) (vA m)) (kcell (c, j)) 0) ∗ posAt c ∗ toks c)

/-- The protocol at the names `K`, without the levels. -/
def known (K : Dev nD × Fin 9 → ℕ) : sProp 𝕄 :=
  iprop((bigSep Finset.univ fun cj : Dev nD × Fin 9 => cellInv ER (haloRd (kA m) (vA m)) (K cj) (kcell cj))
    ∗ bigSep Finset.univ fun cj : Dev nD × Fin 9 => reached ER (kcell cj) 0)
instance known_persistent (K : Dev nD × Fin 9 → ℕ) : BI.Persistent (known m K) := by unfold known; infer_instance

def G' (c : Dev nD) : sProp 𝕄 := iprop((∃ K, known m K ∗ toksOf c ∗ posOf c) ∗ copySems c)

omit [FloatOps F] in
theorem nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL (List.finRange 9) (by decide) (by decide) Φ
omit [FloatOps F] in
theorem ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL (List.finRange 10) (by decide) (by decide) Φ

omit [FloatOps F] in
theorem over_cells (Φ : GSem nD τ sig → sProp 𝕄) :
    bigSep haloCells Φ = bigSep Finset.univ fun c : Dev nD => bigSep Finset.univ fun j : Fin 9 => Φ (kcell (c, j)) := by
  unfold haloCells; rw [bigSep_map, bigSep_univ_prod]; rfl
omit [FloatOps F] in
theorem over_toks : bigSep haloToks (fun x => (dutyTok ER x.1 x.2.1 x.2.2 : sProp 𝕄)) = bigSep Finset.univ fun c : Dev nD => toks c := by
  unfold haloToks toks; rw [bigSep_map, bigSep_univ_prod]; rfl

theorem fund_halo : BI.own (ER (initOf haloCells haloToks)) ⊢ (|==> bigSep Finset.univ (G m) : sProp 𝕄) := by
  iintro HX
  imod (Rounds.fund ER (haloRd (kA m) (vA m)) haloCells haloToks) $$ HX with ⟨Hst, Hr, Hat, Htok⟩
  imodintro
  ihave Hst := (Entails.of_eq (over_cells fun g => roundState ER (haloRd (kA m) (vA m)) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G posAt; simp only [bigSep_sep']
  isplitl [Hst]; · iexact Hst
  isplitl [Hat Hr]
  · isplitl [Hat] <;> iassumption
  iexact Htok

/-! ## The semaphores -/

/-- The kernel's own semaphores: the local copies', and those of the exchange. -/
theorem ownSems0_eq (c : Dev nD) :
    (Pipeline.ownSems0 (Ix := Unit) (Name := ℕ) (U := UU) (Lvl := ℕ) (Val := Elt F) (τ := τ) osem c : sProp 𝕄) = iprop(copySems c ∗ exchSems c) := by
  rw [Pipeline.ownSems0_eq_of_list c osem ([0, 1, 2, 3, 4, 5, 6, 7, 8, 9, 10, 11, 12, 13, 14, 15] ++ [16, 17, 18, 19, 20, 21, 22, 23]) (by decide) (by decide),
    bigSepL_append]
  rfl

theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (iprop(copySems c ∗ bigSep Finset.univ fun j : Fin 9 => semVal (kcell (c, j)) 0) : sProp 𝕄) := by
  rw [ownSems0_eq, unscopedSems0_eq, nine]
  iintro ⟨⟨Hc, He⟩, Hb⟩
  isplitl [Hc]; · iexact Hc
  isplitl [Hb]; · iexact Hb
  iexact He

theorem make_cells (c : Dev nD) :
    iprop((bigSep Finset.univ fun j : Fin 9 => semVal (kcell (c, j)) 0)
        ∗ bigSep Finset.univ fun j : Fin 9 => roundState ER (haloRd (kA m) (vA m)) (kcell (c, j)) 0)
      ⊢ (|={Set.univ}=> bigSep Finset.univ fun j : Fin 9 => iprop(∃ κ : ℕ, cellInv ER (haloRd (kA m) (vA m)) κ (kcell (c, j))) : sProp 𝕄) := by
  rw [← bigSep_sep']
  exact (bigSep_mono fun j _ => (Rounds.body_intro ER (haloRd (kA m) (vA m)) (kcell (c, j))).trans inv_alloc).trans (bigSep_fupd _ _)

def made (c : Dev nD) : sProp 𝕄 :=
  iprop(copySems c ∗ (bigSep Finset.univ fun j : Fin 9 => iprop(∃ κ : ℕ, cellInv ER (haloRd (kA m) (vA m)) κ (kcell (c, j)))) ∗ posAt c ∗ toks c)

theorem device_alloc (c : Dev nD) :
    iprop(Pipeline.ownSems0 (Ix := Unit) (Name := ℕ) (U := UU) (Lvl := ℕ) (Val := Elt F) (τ := τ) osem c ∗ unscopedSems0 c ∗ G m c)
      ⊢ |={Set.univ}=> made m c := by
  unfold G made
  iintro ⟨Ho, Hu, Hst, Hat, Htok⟩
  ihave H := (sems0 (F := F) c) $$ [Ho Hu]
  · isplitl [Ho] <;> iassumption
  icases H with ⟨Hc, Hv⟩
  imod (make_cells m c) $$ [Hv Hst] with Hinv
  · isplitl [Hv] <;> iassumption
  imodintro
  isplitl [Hc]; · iexact Hc
  isplitl [Hinv]; · iexact Hinv
  isplitl [Hat]; · iexact Hat
  iexact Htok

/-- The tokens dealt: a device pays its own sends, its neighbours' barriers, and the receives of the one it copies to. -/
theorem deal : (bigSep (Finset.univ : Finset (Dev nD)) toks : sProp 𝕄) ⊢ bigSep (Finset.univ : Finset (Dev nD)) toksOf := by
  unfold toks
  simp only [ten, bigSep_sep']
  rw [bigSep_univ_equiv ring.symm (fun c : Dev nD => (dutyTok ER (kcell (c, 0)) 0 true : sProp 𝕄)),
    bigSep_univ_equiv ring (fun c : Dev nD => (dutyTok ER (kcell (c, 0)) 0 false : sProp 𝕄)),
    bigSep_univ_equiv ring (fun c : Dev nD => (dutyTok ER (kcell (c, 5)) 0 false : sProp 𝕄)),
    bigSep_univ_equiv ring (fun c : Dev nD => (dutyTok ER (kcell (c, 6)) 0 false : sProp 𝕄)),
    bigSep_univ_equiv ring.symm (fun c : Dev nD => (dutyTok ER (kcell (c, 7)) 0 false : sProp 𝕄)),
    bigSep_univ_equiv ring.symm (fun c : Dev nD => (dutyTok ER (kcell (c, 8)) 0 false : sProp 𝕄))]
  exact .rfl

theorem spread {R : sProp 𝕄} [BI.Persistent R] {Φ Ψ : Dev nD → sProp 𝕄} (h : ∀ c, iprop(R ∗ Φ c) ⊢ Ψ c) :
    iprop(R ∗ bigSep (Finset.univ : Finset (Dev nD)) Φ) ⊢ bigSep (Finset.univ : Finset (Dev nD)) Ψ := by
  refine (sep_mono_left (BI.bigSep_of_persistent (Finset.univ : Finset (Dev nD)) R)).trans ?_
  rw [← bigSep_sep']
  exact bigSep_mono fun c _ => h c

theorem share_out : (bigSep Finset.univ fun c : Dev nD => made m c) ⊢ bigSep Finset.univ (G' m) := by
  unfold made posAt
  simp only [bigSep_sep']
  rw [← bigSep_univ_prod (fun cj : Dev nD × Fin 9 => iprop(∃ κ : ℕ, cellInv ER (haloRd (kA m) (vA m)) κ (kcell cj))),
    ← bigSep_univ_prod (fun cj : Dev nD × Fin 9 => (reached ER (kcell cj) 0 : sProp 𝕄))]
  iintro ⟨Hc, HI, ⟨Hat, #HR⟩, Htok⟩
  ihave HK := (BI.bigSep_exists_pi Finset.univ (fun (cj : Dev nD × Fin 9) (κ : ℕ) => (cellInv ER (haloRd (kA m) (vA m)) κ (kcell cj) : sProp 𝕄))) $$ HI
  icases HK with ⟨%K, #HI⟩
  ihave Htok := (deal (F := F)) $$ Htok
  iapply (spread (R := known m K) (Φ := fun c => iprop((toksOf c ∗ bigSep Finset.univ fun j : Fin 9 => atPos ER (kcell (c, j)) 0 ∅ 0) ∗ copySems c)) (Ψ := G' m) fun c => ?_)
  · unfold G'; rw [nine]
    iintro ⟨HK, ⟨Ht, Hp⟩, Hc⟩
    isplitr [Hc]
    · iexists K
      isplitl [HK]; · iexact HK
      isplitl [Ht] <;> iassumption
    iexact Hc
  isplitr
  · unfold known; isplitl; · iexact HI
    iexact HR
  simp only [bigSep_sep']
  isplitr [Hc]
  · isplitl [Htok] <;> iassumption
  iexact Hc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => device_alloc m c).trans (bigSep_fupd _ _)).trans (BI.fupd_mono (share_out m))

/-! ## The credit at the start -/

omit [FloatOps F] in
theorem tally_at (p q : Dev nD × Fin 9) (n : ℕ) :
    (tallyAt (kcell p) () n : CellTallies nD τ sig Unit) (kcell q) () = if p = q then n else 0 := by
  rw [tallyAt_apply]
  exact if_congr ⟨fun h => (kcell_injective h.1).symm, fun h => ⟨congrArg kcell h.symm, rfl⟩⟩ rfl rfl

theorem sum_prv (f : Dev nD → ℕ) (c : Dev nD) : (∑ d : Dev nD, if prv d = c then f d else 0) = f (nxt c) := by
  rw [Finset.sum_congr rfl fun d _ => if_congr (⟨fun h => by rw [← h, nxt_prv], fun h => by rw [h, prv_nxt]⟩ : prv d = c ↔ d = nxt c) rfl rfl,
    Finset.sum_ite_eq' Finset.univ (nxt c), if_pos (Finset.mem_univ _)]
theorem sum_nxt (f : Dev nD → ℕ) (c : Dev nD) : (∑ d : Dev nD, if nxt d = c then f d else 0) = f (prv c) := by
  rw [Finset.sum_congr rfl fun d _ => if_congr (⟨fun h => by rw [← h, prv_nxt], fun h => by rw [h, nxt_prv]⟩ : nxt d = c ↔ d = prv c) rfl rfl,
    Finset.sum_ite_eq' Finset.univ (prv c), if_pos (Finset.mem_univ _)]

/-- What is owed in all to a device's cells. -/
def due (c : Dev nD) : Fin 9 → ℕ
  | 0 => bl c + br c | 1 => 0 | 2 => 0 | 3 => 0 | 4 => 0 | 5 => nl c | 6 => nl c | 7 => nr c | 8 => nr c

theorem nl_nxt (c : Dev nD) : nl (nxt c) = nr c := if_congr (hasL_nxt c) rfl rfl
theorem bl_nxt (c : Dev nD) : bl (nxt c) = br c := if_congr (hasL_nxt c) rfl rfl
theorem nr_prv (c : Dev nD) : nr (prv c) = nl c := if_congr (hasR_prv c) rfl rfl
theorem br_prv (c : Dev nD) : br (prv c) = bl c := if_congr (hasR_prv c) rfl rfl

theorem owed_at (d c : Dev nD) (j : Fin 9) : O₀ d (kcell (c, j)) ()
    = (if prv d = c then (if 8 = j then nl d else 0) + (if 7 = j then nl d else 0) + (if 0 = j then bl d else 0) else 0)
      + (if nxt d = c then (if 6 = j then nr d else 0) + (if 5 = j then nr d else 0) + (if 0 = j then br d else 0) else 0) := by
  unfold O₀ O₁ oL oR
  simp only [Pi.add_apply, Finsupp.add_apply, tally_at, Prod.mk.injEq]
  by_cases h : prv d = c <;> by_cases h' : nxt d = c <;> simp only [h, h', true_and, false_and, if_true, if_false] <;> omega

theorem due_eq (c : Dev nD) (j : Fin 9) : (∑ d : Dev nD, O₀ d (kcell (c, j)) ()) = due c j := by
  rw [Finset.sum_congr rfl fun d _ => owed_at d c j, Finset.sum_add_distrib,
    sum_prv (fun d => (if 8 = j then nl d else 0) + (if 7 = j then nl d else 0) + (if 0 = j then bl d else 0)),
    sum_nxt (fun d => (if 6 = j then nr d else 0) + (if 5 = j then nr d else 0) + (if 0 = j then br d else 0)),
    nl_nxt, bl_nxt, nr_prv, br_prv]
  fin_cases j <;> simp [due, Nat.add_comm]

theorem launch_at (c : Dev nD) (j : Fin 9) :
    tallyOn (kcell (c, j)) (launchCredit (Pipeline.owing O₀) 0 (kcell (c, j))) = (tallyAt (kcell (c, j)) () (due c j) : CellTallies nD τ sig Unit) := by
  unfold tallyAt
  refine congrArg _ (Finsupp.ext fun u => ?_)
  cases u
  rw [Pipeline.launchCredit_owing, Finsupp.single_eq_same, due_eq]

theorem creds (c : Dev nD) : (Pipeline.launchCred O₀ c : sProp 𝕄) ⊢ credsOf c := by
  unfold Pipeline.launchCred
  have h : (bigSep Finset.univ fun sm : SemLoc sig => cred (tallyOn ((c.tc : Thread nD τ), sm) (launchCredit (Pipeline.owing O₀) 0 ((c.tc : Thread nD τ), sm))) : sProp 𝕄)
      ⊢ bigSep (Finset.univ.map ⟨csem, csem_injective⟩) fun sm : SemLoc sig => cred (tallyOn ((c.tc : Thread nD τ), sm) (launchCredit (Pipeline.owing O₀) 0 ((c.tc : Thread nD τ), sm))) :=
    bigSep_subset (Finset.subset_univ _)
  refine h.trans ?_
  rw [bigSep_map]
  have e : (bigSep Finset.univ fun j : Fin 9 => (cred (tallyOn ((c.tc : Thread nD τ), csem j) (launchCredit (Pipeline.owing O₀) 0 ((c.tc : Thread nD τ), csem j))) : sProp 𝕄))
      = bigSep Finset.univ fun j : Fin 9 => cred (tallyAt (kcell (c, j)) () (due c j)) := bigSep_congr fun j _ => congrArg cred (launch_at c j)
  refine (Entails.of_eq (e.trans (nine _))).trans ?_
  iintro H
  icases H with ⟨H0, -, -, -, -, H5, H6, H7, H8⟩
  isplitl [H0]; · iexact H0
  isplitl [H5]; · iexact H5
  isplitl [H6]; · iexact H6
  isplitl [H7]; · iexact H7
  iexact H8

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start ghost known records
  iintro ⟨⟨Hk, Hv⟩, Hlev, Hcr, -, ⟨⟨%K, ⟨HI, HR⟩, Ht, Hp⟩, Hc⟩⟩
  ihave Hcr := (creds (F := F) c) $$ Hcr
  imodintro
  isplitl
  · isplitl [HI HR Hlev Ht Hp]
    · iexists K
      isplitl [HI HR Hlev]
      · isplitl [HI]; · iexact HI
        isplitl [HR] <;> iassumption
      isplitl [Ht] <;> iassumption
    isplitl [Hcr]; · iexact Hcr
    isplitl [Hk]; · iexact Hk
    isplitl [Hv]; · iexact Hv
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What a device keeps of its end: the counters at zero, its keys and values. -/
def kept (c : Dev nD) : sProp 𝕄 := iprop(unscopedSems0 c ∗ pt c kM (kA m c) ∗ pt c vM (vA m c))

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq, ownSems0_eq]
  unfold Φ₁ kept; rw [unscopedSems0_eq]
  iintro ⟨Hr, Hc, He, Hb, Hk, Hv⟩
  isplitl [Hb Hk Hv]
  · isplitl [Hb]; · iexact Hb
    isplitl [Hk] <;> iassumption
  isplitl [Hc He]
  · isplitl [Hc]; · iexact Hc
    iexact He
  iexact Hr

theorem waits (c : Dev nD) : (levAts L lv : sProp 𝕄) ⊢ Pipeline.cellsWaits cfgs (dats m) () 0 c :=
  Pipeline.cellsWaits_intro cfgs (dats m) () 0 c fun w s t =>
    mayWait_copy c _ (by fin_cases w <;> fin_cases s <;> decide) _ (by
      rcases t with ⟨_ | _, ht⟩
      · exact Or.inl rfl
      · exact Or.inr rfl)

/-! ## The run -/

def atEnd (c : Dev nD) (s : MemSt nD τ sig (Elt F)) : Prop :=
  s.mem ((c : Thread nD τ).loc main_arg2) = m ((c : Thread nD τ).loc main_arg2)
    ∧ s.mem ((c : Thread nD τ).loc main_arg3) = m ((c : Thread nD τ).loc main_arg3)
    ∧ ∀ sm : SemLoc sig, sm.isScoped .tc = false → s.sem ((c.tc : Thread nD τ), sm) = 0

def results : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg2) = m ((c : Thread nD τ).loc main_arg2)
    ∧ r.2.mem ((c : Thread nD τ).loc main_arg3) = m ((c : Thread nD τ).loc main_arg3)

theorem end_read (c : Dev nD) (s' : Phys nD τ sig (Elt F)) : iprop(kept m c ∗ emp ∗ SI s') ⊢ (|={Set.univ}=> iprop(⌜atEnd m c s'.mem⌝ ∗ SI s') : sProp 𝕄) := by
  unfold kept
  iintro ⟨⟨Hu, Hk, Hv⟩, -, HSI⟩
  ihave %hk := SI_pointsTo_agree $$ [HSI Hk]
  · isplitl [HSI] <;> iassumption
  ihave %hv := SI_pointsTo_agree $$ [HSI Hv]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨Buf.eq_of_forall_mem_univ hk, Buf.eq_of_forall_mem_univ hv, hs⟩
  iexact HSI

/-- From any memory with the counters at zero every fair run ends, with the windows' arrays at what the body computes, the
    keys and values unchanged, and every counter at zero again. -/
theorem run_main : θ_run defs (onTc (τ := τ) (main (F := F))) ⟨m, fun _ => 0, ρ⟩ (fun r => results m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_halo m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := atEnd m) (hY := end_read m)
    (hQ := fun _ h hs => ⟨fun c => ⟨(h c).1, (h c).2.2.1, (h c).2.2.2.1⟩, sem_eq_zero hs fun c => (h c).2.2.2.2⟩)

/-! ## The program's frame and result -/

/-- Every final memory of the program: the result as the body computes it, the arguments unchanged, the counters at zero. -/
def final (r : PUnit × MemSt nD τ sig (Elt F)) : Prop :=
  (∀ c : Dev nD, r.2.mem ((c : Thread nD τ).loc main_v1) = outA m c)
    ∧ (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0

theorem arr_out (c : Dev nD) : (dats m 0 c).arrAt (3 : Fin 4) cfg0.N = outA m c := by
  have ho : (win0_3.blk t0_0).view.read (Elt F) ((dats m 0 c).arrAt (3 : Fin 4) cfg0.N) = outA m c := by
    rw [show cfg0.N = (t0_0 : Fin cfg0.N).val + 1 from rfl, (dats m 0 c).arrAt_succ (3 : Fin 4) t0_0, if_pos (flush0_3 t0_0)]
    exact View.read_write_univ _ _
  rw [← ho]
  exact (Memref.read_access_unit_zero (Elt F) main_v1 (funext fun a => by fin_cases a <;> decide) (fun a => by fin_cases a <;> decide) _).symm

theorem xA_eq (c : Dev nD) : xA m c = m ((c : Thread nD τ).loc main_arg0) :=
  Memref.read_access_unit_zero (Elt F) main_arg0 (funext fun a => by fin_cases a <;> decide) (fun a => by fin_cases a <;> decide) _
theorem wqA_eq (c : Dev nD) : wqA m c = m ((c : Thread nD τ).loc main_arg1) :=
  Memref.read_access_unit_zero (Elt F) main_arg1 (funext fun a => by fin_cases a <;> decide) (fun a => by fin_cases a <;> decide) _
theorem woA_eq (c : Dev nD) : woA m c = m ((c : Thread nD τ).loc main_arg4) :=
  Memref.read_access_unit_zero (Elt F) main_arg4 (funext fun a => by fin_cases a <;> decide) (fun a => by fin_cases a <;> decide) _

theorem run_final : θ_run defs (onTc (τ := τ) (main (F := F))) ⟨m, fun _ => 0, ρ⟩ (final m) :=
  (θ_run defs _ _).mono (fun r h => by
    obtain ⟨h, hs⟩ := h
    refine ⟨fun c => ((h c).1 3).trans (arr_out m c), fun c => ⟨((h c).1 0).trans ?_, ((h c).1 1).trans ?_, (h c).2.1, (h c).2.2, ((h c).1 2).trans ?_⟩, hs⟩
    · exact (dats m 0 c).arrAt_in (0 : Fin 4) rfl _
    · exact (dats m 0 c).arrAt_in (1 : Fin 4) rfl _
    · exact (dats m 0 c).arrAt_in (2 : Fin 4) rfl _) (run_main m ρ)

end Cert.KernelIdeal.Halo

end
-- ==== Proof.Frames.lean ====
/-
  The frames of the kernel, read over the bits and over the extended reals, and of the reference: the arguments unchanged,
  the counters at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem
open Cert.KernelIdeal.Halo (run_final)

theorem frame_ideal : Cert.quiescent_KernelIdeal := fun m ρ _ =>
  (θ_run Cert.KernelIdeal.defs _ _).mono (fun _ h => h.2) (run_final (F := Ideal) m ρ)

/-- The program as printed and the one printed for the ideal reading run the same bodies. -/
theorem bodies_eq : Cert.Kernel.defs₀ (F := Bits) = Cert.KernelIdeal.defs₀ (F := Bits) := by
  funext p l a
  match p with
  | .tc => match l with
    | 0 => rfl
    | ⟨n + 1, h⟩ => exact absurd h (Nat.not_lt.2 (Nat.le_add_left _ _))
  | .scScalar _ => rfl
  | .scVector _ _ => rfl
theorem table_eq : Cert.Kernel.defs (F := Bits) = Cert.KernelIdeal.defs (F := Bits) :=
  congrArg (Pipeline.defs Cert.KernelIdeal.pcfgs) bodies_eq

theorem frame_bits : Cert.quiescent_Kernel := fun m ρ _ => by
  rw [table_eq]
  exact (θ_run Cert.KernelIdeal.defs _ _).mono (fun _ h => h.2) (run_final (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Softmax.lean ====
/-
  Softmax over a band, in the extended reals: with the largest score subtracted and divided term by term, or with
  neither and divided once.
-/
module

public import Idealize.ShloMosaic.PureOps.Ideal
public import Idealize.ShloMosaic.PureOps.Ideal.Laws

@[expose] public section

noncomputable section

namespace Cert.Proof

open Idealize.ShloMosaic
open scoped BigOperators

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor at least zero goes through a sum, whatever the summands. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The weight of a key `j` among those that satisfy `B`. -/
def wt {ι : Type} [Fintype ι] (B : ι → Prop) [DecidablePred B] (r : ι → ℝ) (j : ι) : ℝ :=
  if B j then Real.exp (r j) / ∑ j', (if B j' then Real.exp (r j') else 0) else 0

section

variable {ι : Type} [Fintype ι] (B : ι → Prop) [DecidablePred B] (r : ι → ℝ)

theorem total_pos {j₀ : ι} (h : B j₀) : 0 < ∑ j', (if B j' then Real.exp (r j') else 0) := by
  refine Finset.sum_pos' (fun j _ => ?_) ⟨j₀, Finset.mem_univ _, ?_⟩
  · split_ifs
    · exact (Real.exp_pos _).le
    · exact le_rfl
  · rw [if_pos h]; exact Real.exp_pos _

/-- The largest of finite scores, the others at `-∞`, is finite. -/
theorem max_real {j₀ : ι} (h : B j₀) :
    ∃ M : ℝ, (Finset.univ : Finset ι).fold max (⊥ : EReal) (fun j => if B j then (r j : EReal) else ⊥) = (M : EReal) := by
  classical
  have hlt : (Finset.univ : Finset ι).fold max (⊥ : EReal) (fun j => if B j then (r j : EReal) else ⊥) < ⊤ := by
    rw [Finset.fold_max_lt]
    refine ⟨bot_lt_top, fun j _ => ?_⟩
    split_ifs
    · exact EReal.coe_lt_top _
    · exact bot_lt_top
  have hgt : ⊥ < (Finset.univ : Finset ι).fold max (⊥ : EReal) (fun j => if B j then (r j : EReal) else ⊥) := by
    rw [Finset.lt_fold_max]
    exact .inr ⟨j₀, Finset.mem_univ _, by rw [if_pos h]; exact EReal.bot_lt_coe _⟩
  exact ⟨_, (EReal.coe_toReal hlt.ne hgt.ne').symm⟩

/-- With the largest score subtracted: the weight. -/
theorem softmax_shifted {j₀ : ι} (h : B j₀) (s : ι → EReal) (hs : ∀ j, s j = if B j then (r j : EReal) else ⊥) (j : ι) :
    Ideal.div (Ideal.exp (s j - (Finset.univ : Finset ι).fold max (⊥ : EReal) s))
      (0 + ∑ j', Ideal.exp (s j' - (Finset.univ : Finset ι).fold max (⊥ : EReal) s)) = (wt B r j : EReal) := by
  obtain rfl : s = fun j => if B j then (r j : EReal) else ⊥ := funext hs
  obtain ⟨M, hM⟩ := max_real B r h
  have he : ∀ j, Ideal.exp ((if B j then (r j : EReal) else ⊥) - (M : EReal)) = (((if B j then Real.exp (r j) else 0) * Real.exp (-M) : ℝ) : EReal) := by
    intro j
    by_cases hj : B j
    · rw [if_pos hj, if_pos hj, ← EReal.coe_sub, Ideal.exp_coe, sub_eq_add_neg, Real.exp_add]
    · rw [if_neg hj, if_neg hj, EReal.bot_sub, zero_mul]; rfl
  rw [hM]
  simp only [he]
  have hp := total_pos B r h
  have hE : 0 < Real.exp (-M) := Real.exp_pos _
  rw [zero_add, ← coe_sum, ← Finset.sum_mul, Ideal.div_coe (mul_pos hp hE).ne', ← EReal.coe_mul]
  refine congrArg _ ?_
  unfold wt
  by_cases hj : B j
  · rw [if_pos hj, if_pos hj]; field_simp
  · rw [if_neg hj, if_neg hj]; simp

/-- With nothing subtracted, divided once: the sum with the weights. -/
theorem softmax_direct {j₀ : ι} (h : B j₀) (v : ι → EReal) :
    (∑ j, (((if B j then Real.exp (r j) else 0 : ℝ) : EReal) * v j)) * Ideal.div 1 (∑ j, ((if B j then Real.exp (r j) else 0 : ℝ) : EReal))
      = ∑ j, v j * (wt B r j : EReal) := by
  have hp := total_pos B r h
  rw [← coe_sum, Ideal.div_coe hp.ne', one_mul, sum_mul_coe _ _ (one_div_pos.mpr hp).le]
  refine Finset.sum_congr rfl fun j _ => ?_
  rw [mul_comm _ (v j), mul_assoc, ← EReal.coe_mul]
  refine congrArg (fun x : ℝ => v j * (x : EReal)) ?_
  unfold wt
  by_cases hj : B j
  · rw [if_pos hj, if_pos hj]; ring
  · rw [if_neg hj, if_neg hj]; ring

end

/-- A sum over a window of 512 keys, of the terms that `P` keeps, is the sum over all keys of those that `B` keeps. -/
theorem sum_window {β : Type} [AddCommMonoid β] (base : ℕ) (P : Fin 512 → Prop) [DecidablePred P] (B : Fin 8192 → Prop) [DecidablePred B]
    (hP : ∀ j, P j → ∃ k : Fin 8192, B k ∧ k.val + 128 = base + j.val) (hB : ∀ k, B k → ∃ j : Fin 512, P j ∧ k.val + 128 = base + j.val)
    (g : Fin 512 → β) (G : Fin 8192 → β) (hg : ∀ j k, P j → k.val + 128 = base + j.val → g j = G k) :
    (∑ j, if P j then g j else 0) = ∑ k, if B k then G k else 0 := by
  rw [← Finset.sum_filter, ← Finset.sum_filter]
  refine Finset.sum_bij (fun j hj => (hP j (Finset.mem_filter.mp hj).2).choose) ?_ ?_ ?_ ?_
  · intro j hj
    exact Finset.mem_filter.mpr ⟨Finset.mem_univ _, (hP j (Finset.mem_filter.mp hj).2).choose_spec.1⟩
  · intro j hj j' hj' e
    have h1 := (hP j (Finset.mem_filter.mp hj).2).choose_spec.2
    have h2 := (hP j' (Finset.mem_filter.mp hj').2).choose_spec.2
    rw [e] at h1
    exact Fin.ext (by omega)
  · intro k hk
    obtain ⟨j, hj, e⟩ := hB k (Finset.mem_filter.mp hk).2
    refine ⟨j, Finset.mem_filter.mpr ⟨Finset.mem_univ _, hj⟩, Fin.ext ?_⟩
    have h1 := (hP j hj).choose_spec.2
    omega
  · intro j hj
    exact hg _ _ (Finset.mem_filter.mp hj).2 (hP j (Finset.mem_filter.mp hj).2).choose_spec.2

/-- The scale of the scores, as the number it denotes. -/
def scale : EReal := Ideal.ofBits .f32 0x3DB504F3#32
theorem scale_real : ∃ c : ℝ, scale = (c : EReal) := by
  unfold scale
  simp only [Ideal.ofBits, Ideal.ieee]
  rw [if_neg (by decide), if_neg (by decide)]
  exact ⟨_, rfl⟩

/-- A key within 128 places of a query. -/
def near (i j : ℕ) : Prop := i ≤ j + 128 ∧ j ≤ i + 128
instance (i j : ℕ) : Decidable (near i j) := by unfold near; infer_instance

end Cert.Proof

end
-- ==== Proof.Values.lean ====
/-
  The kernel's result, element by element.
-/
module

public import proofs.«01_k».proof.Proof.Softmax
public import proofs.«01_k».proof.Proof.Oblig
public import Idealize.ShloMosaic.Lib.IdealHost
public import Idealize.ShloMosaic.Lib.Pipeline.Value

@[expose] public section

set_option maxRecDepth 16384

noncomputable section

namespace Cert.KernelIdeal.Halo

open Cert.KernelIdeal Cert.KernelIdeal.Gen Cert.Proof
open Idealize.ShloMosaic Idealize.ShloMosaic.TcCoe Idealize.ShloMosaic.ValueIdx
open scoped BigOperators

/-! ## The products -/

theorem projDot_at (l : FVec Ideal S2048x1024 .bf16) (r : FVec Ideal S1024x1024 .bf16) (z : Fin 2048) (n : Fin 1024) :
    matmul dot_S2048x1024_S1024x1024_S2048x1024_1_0_0_1_n_n none l r (constant S2048x1024 .f32 0x00000000#32) (ix2 z n)
      = ∑ e : Fin 1024, l (ix2 z e) * r (ix2 e n) := by
  refine (Ideal.matmul_constant_zero_apply _ none _ _ _).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  refine congrArg₂ (· * ·) (congrArg l (funext fun a => Fin.ext ?_)) (congrArg r (funext fun a => Fin.ext ?_))
  · match a with
    | ⟨0, _⟩ => rfl
    | ⟨1, _⟩ => exact hk
  · match a with
    | ⟨0, _⟩ => exact hk
    | ⟨1, _⟩ => rfl

theorem scoreDot_at (l : FVec Ideal S256x128 .bf16) (r : FVec Ideal S512x128 .bf16) (z : Fin 256) (j : Fin 512) :
    matmul dot_S256x128_S512x128_S256x512_1_1_0_0_n_n none l r (constant S256x512 .f32 0x00000000#32) (ix2 z j)
      = ∑ d : Fin 128, l (ix2 z d) * r (ix2 j d) := by
  refine (Ideal.matmul_constant_zero_apply _ none _ _ _).trans ?_
  rw [← Equiv.sum_comp (contrEquiv1 dot_S256x128_S512x128_S256x512_1_1_0_0_n_n 128 rfl rfl).symm]
  refine Finset.sum_congr rfl fun k _ => ?_
  have hk := contrEquiv1_symm_val dot_S256x128_S512x128_S256x512_1_1_0_0_n_n 128 rfl rfl k
  refine congrArg₂ (· * ·) (congrArg l (funext fun a => Fin.ext ?_)) (congrArg r (funext fun a => Fin.ext ?_))
  · match a with
    | ⟨0, _⟩ => rfl
    | ⟨1, _⟩ => exact hk
  · match a with
    | ⟨0, _⟩ => rfl
    | ⟨1, _⟩ => exact hk

theorem ctxDot_at (l : FVec Ideal S256x512 .bf16) (r : FVec Ideal S512x128 .bf16) (z : Fin 256) (d : Fin 128) :
    matmul dot_S256x512_S512x128_S256x128_1_0_0_1_n_n none l r (constant S256x128 .f32 0x00000000#32) (ix2 z d)
      = ∑ j : Fin 512, l (ix2 z j) * r (ix2 j d) := by
  refine (Ideal.matmul_constant_zero_apply _ none _ _ _).trans ?_
  rw [← Equiv.sum_comp (contrEquiv1 dot_S256x512_S512x128_S256x128_1_0_0_1_n_n 512 rfl rfl).symm]
  refine Finset.sum_congr rfl fun k _ => ?_
  have hk := contrEquiv1_symm_val dot_S256x512_S512x128_S256x128_1_0_0_1_n_n 512 rfl rfl k
  refine congrArg₂ (· * ·) (congrArg l (funext fun a => Fin.ext ?_)) (congrArg r (funext fun a => Fin.ext ?_))
  · match a with
    | ⟨0, _⟩ => rfl
    | ⟨1, _⟩ => exact hk
  · match a with
    | ⟨0, _⟩ => exact hk
    | ⟨1, _⟩ => rfl

theorem outDot_at (l : FVec Ideal S256x1024 .bf16) (r : FVec Ideal S1024x1024 .bf16) (z : Fin 256) (n : Fin 1024) :
    matmul dot_S256x1024_S1024x1024_S256x1024_1_0_0_1_n_n none l r (constant S256x1024 .f32 0x00000000#32) (ix2 z n)
      = ∑ e : Fin 1024, l (ix2 z e) * r (ix2 e n) := by
  refine (Ideal.matmul_constant_zero_apply _ none _ _ _).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  refine congrArg₂ (· * ·) (congrArg l (funext fun a => Fin.ext ?_)) (congrArg r (funext fun a => Fin.ext ?_))
  · match a with
    | ⟨0, _⟩ => rfl
    | ⟨1, _⟩ => exact hk
  · match a with
    | ⟨0, _⟩ => exact hk
    | ⟨1, _⟩ => rfl

/-! ## The payloads -/

theorem pay11_at (x : Vec Ideal S1x2048x1024 .f32) (wq : Vec Ideal S1024x1024 .f32) (z : Fin 2048) (n : Fin 1024) :
    k0_pay11 x wq (ix2 z n) = (∑ e : Fin 1024, x (ix3 (0 : Fin 1) z e) * wq (ix2 e n)) * scale := by
  unfold k0_pay11
  rw [shapeCast_self, truncf_apply, mulf_apply, projDot_at, shapeCast_self]
  refine congrArg (· * scale) (Finset.sum_congr rfl fun e _ => ?_)
  rw [truncf_apply, truncf_apply]
  rw [shapeCast_apply _ _ (ix2 z e) (ix3 (0 : Fin 1) z e) (by
    rw [Shape.rowMajor_val_three, Shape.rowMajor_val_two]
    show ((0 * 2048 + z.val) * 1024 + e.val : ℕ) = z.val * 1024 + e.val
    omega)]

theorem pay12_at (wo : Vec Ideal S1024x1024 .f32) (i : S1024x1024.Idx) : k0_pay12 wo i = wo i := by
  unfold k0_pay12
  rw [shapeCast_self, shapeCast_self, truncf_apply]

theorem pay38_at (l : Vec Ideal S256x1024 .bf16) (r : Vec Ideal S1024x1024 .bf16) (z : Fin 256) (n : Fin 1024) :
    k0_pay38 l r (ix3 (0 : Fin 1) z n) = ∑ e : Fin 1024, l (ix2 z e) * r (ix2 e n) := by
  unfold k0_pay38
  rw [shapeCast_apply _ _ (ix3 (0 : Fin 1) z n) (ix2 z n) (by
    rw [Shape.rowMajor_val_three, Shape.rowMajor_val_two]
    show z.val * 1024 + n.val = ((0 * 256 + z.val) * 1024 + n.val : ℕ)
    omega)]
  exact outDot_at _ _ _ _

theorem headP_at (mask : FVec Ideal S256x512 .f32) (q : Vec Ideal S256x128 .bf16) (k v : Vec Ideal S512x128 .bf16) (z : Fin 256) (d : Fin 128) :
    headP mask q k v (ix2 z d)
      = (∑ j : Fin 512, (Ideal.exp (∑ d : Fin 128, q (ix2 z d) * k (ix2 j d)) * mask (ix2 z j)) * v (ix2 j d))
        * Ideal.div 1 (∑ j : Fin 512, Ideal.exp (∑ d : Fin 128, q (ix2 z d) * k (ix2 j d)) * mask (ix2 z j)) := by
  unfold headP k0_pay6
  dsimp only
  rw [shapeCast_self, truncf_apply, mulf_apply, ctxDot_at]
  have hw : ∀ j : Fin 512, mulf (exp (matmul dot_S256x128_S512x128_S256x512_1_1_0_0_n_n none q k (constant S256x512 .f32 0x00000000#32))) mask (ix2 z j)
      = Ideal.exp (∑ d : Fin 128, q (ix2 z d) * k (ix2 j d)) * mask (ix2 z j) := fun j => by
    rw [mulf_apply, ← scoreDot_at]; rfl
  refine congrArg₂ (· * ·) (Finset.sum_congr rfl fun j _ => ?_) ?_
  · rw [truncf_apply, hw]
  · rw [broadcastTo_apply _ _ (ix2 z d) (ix2 z (0 : Fin 1)) (by intro a; match a with | ⟨0, _⟩ => rfl | ⟨1, _⟩ => rfl)]
    rw [divf_apply]
    rw [shapeCast_apply _ _ (ix2 z (0 : Fin 1)) (ix1 z) (by
      rw [Shape.rowMajor_val_one, Shape.rowMajor_val_two]
      show z.val = z.val * 1 + 0
      omega)]
    refine (congrArg (Ideal.div _) (Ideal.multiReduction_add_single _ _ _ _ _ _)).trans ?_
    refine congrArg₂ Ideal.div Ideal.ofBits_one_f32 (Finset.sum_congr rfl fun j _ => ?_)
    refine Eq.trans (congrArg _ (funext fun a => Fin.ext ?_)) (hw j)
    match a with
    | ⟨0, _⟩ => rfl
    | ⟨1, _⟩ => rfl

/-! ## The mask -/

theorem bit_at (b : BitVec 1) (h : 1 < 32) : (FloatOps.sitofp .f32 (b.setWidth 32) : Ideal .f32) = if b = 1#1 then 1 else 0 := by
  show ((((b.setWidth 32).toInt : ℤ) : ℝ) : EReal) = _
  have hb : b = 0#1 ∨ b = 1#1 := by revert b; decide
  rcases hb with rfl | rfl
  · simp
  · rw [if_pos rfl, show ((1#1 : BitVec 1).setWidth 32).toInt = 1 by decide]; simp

theorem sle_iff {x y : BitVec 32} {a b : ℤ} (hx : x.toInt = a) (hy : y.toInt = b) : BitVec.ofBool (x.sle y) = 1#1 ↔ a ≤ b := by
  rw [BitVec.sle_eq_decide, hx, hy]
  by_cases h : a ≤ b
  · rw [decide_eq_true h]; exact ⟨fun _ => h, fun _ => rfl⟩
  · rw [decide_eq_false h]; exact ⟨fun e => absurd e (by decide), fun e => absurd e h⟩
theorem slt_iff {x y : BitVec 32} {a b : ℤ} (hx : x.toInt = a) (hy : y.toInt = b) : BitVec.ofBool (x.slt y) = 1#1 ↔ a < b := by
  rw [BitVec.slt_eq_decide, hx, hy]
  by_cases h : a < b
  · rw [decide_eq_true h]; exact ⟨fun _ => h, fun _ => rfl⟩
  · rw [decide_eq_false h]; exact ⟨fun e => absurd e (by decide), fun e => absurd e h⟩
theorem and_iff (a b : BitVec 1) : IntOp.andi a b = 1#1 ↔ a = 1#1 ∧ b = 1#1 := by revert a b; decide
theorem small_int (n : ℕ) (h : n < 65536) : (BitVec.ofNat 32 n).toInt = (n : ℤ) := by
  rw [BitVec.toInt_eq_toNat_of_lt (by rw [BitVec.toNat_ofNat]; omega), BitVec.toNat_ofNat]; omega

theorem band_at (z : Fin 256) (j : Fin 512) :
    (k0_pay36 : FVec Ideal S256x512 .f32) (ix2 z j) = if z.val ≤ j.val ∧ j.val ≤ z.val + 256 then 1 else 0 := by
  unfold k0_pay36
  dsimp only
  rw [sitofp_apply, extui_apply, bit_at _ natLt_1_32]
  have e0 : iota .tc S256x512 32 [0] iota_S256x512_d0_w32 (ix2 z j) = BitVec.ofNat 32 z.val := iota_single_apply _ _ _ _ _ _
  have e1 : iota .tc S256x512 32 [1] iota_S256x512_d1_w32 (ix2 z j) = BitVec.ofNat 32 j.val := iota_single_apply _ _ _ _ _ _
  have hs : (BitVec.ofNat 32 z.val + 256#32).toInt = ((z.val + 256 : ℕ) : ℤ) := by
    rw [BitVec.toInt_add, small_int _ (by omega), show (256#32 : BitVec 32).toInt = 256 by decide]; simp only [Int.bmod_def]; omega
  refine if_congr ?_ rfl rfl
  show IntOp.andi (BitVec.ofBool ((iota .tc S256x512 32 [0] iota_S256x512_d0_w32 (ix2 z j)).sle (iota .tc S256x512 32 [1] iota_S256x512_d1_w32 (ix2 z j))))
    (BitVec.ofBool ((iota .tc S256x512 32 [1] iota_S256x512_d1_w32 (ix2 z j)).sle (iota .tc S256x512 32 [0] iota_S256x512_d0_w32 (ix2 z j) + 256#32))) = 1#1 ↔ _
  rw [e0, e1, and_iff, sle_iff (small_int z.val (by omega)) (small_int j.val (by omega)), sle_iff (small_int j.val (by omega)) hs]
  omega

theorem place_eq (c : Dev nD) : place c = BitVec.ofNat 32 c.val := by revert c; decide

theorem bmod_small (n : ℤ) (h : -65536 < n) (h' : n < 65536) : n.bmod (2 ^ 32) = n := by
  simp only [Int.bmod_def]; omega

theorem keyPos (c : Dev nD) (t : Fin 8) (j : Fin 512) :
    (place c * 2048#32 - 128#32 + BitVec.ofNat 32 (256 * t.val) + BitVec.ofNat 32 j.val).toInt = (2048 * c.val + 256 * t.val + j.val : ℤ) - 128 := by
  have hc : c.val < 4 := c.isLt
  have ht := t.isLt
  have hj := j.isLt
  have h1 : (BitVec.ofNat 32 c.val * 2048#32).toInt = 2048 * c.val := by
    rw [BitVec.toInt_mul, small_int c.val (by omega), show (2048#32 : BitVec 32).toInt = 2048 by decide, bmod_small _ (by omega) (by omega), mul_comm]
  have h2 : (BitVec.ofNat 32 c.val * 2048#32 - 128#32).toInt = 2048 * c.val - 128 := by
    rw [BitVec.toInt_sub, h1, show (128#32 : BitVec 32).toInt = 128 by decide, bmod_small _ (by omega) (by omega)]
  have h3 : (BitVec.ofNat 32 c.val * 2048#32 - 128#32 + BitVec.ofNat 32 (256 * t.val)).toInt = 2048 * c.val - 128 + (256 * t.val : ℕ) := by
    rw [BitVec.toInt_add, h2, small_int _ (by omega), bmod_small _ (by omega) (by omega)]
  rw [place_eq, BitVec.toInt_add, h3, small_int j.val (by omega), bmod_small _ (by omega) (by omega)]
  push_cast
  ring

/-- Whether the query in row `z` of block `t` on device `c` sees the key in column `j` of the block's window. -/
def seen (c : Dev nD) (t : Fin 8) (z : Fin 256) (j : Fin 512) : Prop :=
  (z.val ≤ j.val ∧ j.val ≤ z.val + 256) ∧ 128 ≤ 2048 * c.val + 256 * t.val + j.val ∧ 2048 * c.val + 256 * t.val + j.val < 8320
instance (c : Dev nD) (t : Fin 8) (z : Fin 256) (j : Fin 512) : Decidable (seen c t z j) := by unfold seen; infer_instance

theorem mask_at (c : Dev nD) (t : Fin 8) (z : Fin 256) (j : Fin 512) :
    maskB (F := Ideal) (place c) t (ix2 z j) = if seen c t z j then 1 else 0 := by
  unfold maskB maskW
  rw [mulf_apply, band_at]
  rw [broadcastTo_apply _ _ (ix2 z j) (ix2 (0 : Fin 1) j) (by intro a; match a with | ⟨0, _⟩ => rfl | ⟨1, _⟩ => rfl)]
  rw [sitofp_apply, extui_apply, bit_at _ natLt_1_32]
  have e1 : iota .tc S1x512 32 [1] iota_S1x512_d1_w32 (ix2 (0 : Fin 1) j) = BitVec.ofNat 32 j.val := iota_single_apply _ _ _ _ _ _
  have hb : andi (cmpi .sge (addi (broadcast S1x512 (Scalar.addi (Scalar.subi (Scalar.muli (place c) 2048#32) 128#32) (BitVec.ofNat 32 (256 * t.val)))) (iota .tc S1x512 32 [1] iota_S1x512_d1_w32)) (broadcast S1x512 0#32))
      (cmpi .slt (addi (broadcast S1x512 (Scalar.addi (Scalar.subi (Scalar.muli (place c) 2048#32) 128#32) (BitVec.ofNat 32 (256 * t.val)))) (iota .tc S1x512 32 [1] iota_S1x512_d1_w32)) (broadcast S1x512 8192#32)) (ix2 (0 : Fin 1) j) = 1#1
      ↔ (128 ≤ 2048 * c.val + 256 * t.val + j.val ∧ 2048 * c.val + 256 * t.val + j.val < 8320) := by
    show IntOp.andi (BitVec.ofBool ((0#32 : BitVec 32).sle (place c * 2048#32 - 128#32 + BitVec.ofNat 32 (256 * t.val) + iota .tc S1x512 32 [1] iota_S1x512_d1_w32 (ix2 (0 : Fin 1) j))))
      (BitVec.ofBool ((place c * 2048#32 - 128#32 + BitVec.ofNat 32 (256 * t.val) + iota .tc S1x512 32 [1] iota_S1x512_d1_w32 (ix2 (0 : Fin 1) j)).slt 8192#32)) = 1#1 ↔ _
    rw [e1, and_iff, sle_iff (show (0#32 : BitVec 32).toInt = 0 by decide) (keyPos c t j), slt_iff (keyPos c t j) (show (8192#32 : BitVec 32).toInt = 8192 by decide)]
    omega
  by_cases h1 : z.val ≤ j.val ∧ j.val ≤ z.val + 256
  · rw [if_pos h1, one_mul]
    exact if_congr (hb.trans ⟨fun h => ⟨h1, h⟩, fun h => h.2⟩) rfl rfl
  · rw [if_neg h1, zero_mul, if_neg fun h => h1 h.1]

/-! ## The exchanged rows -/

/-- A row of the exchanged buffer that stands for a key of the sequence holds that key. -/
theorem full_at (k : Dev nD → Vec Ideal S1x2048x8x128 .f32) (G : Fin 8192 → Fin 8 → Fin 128 → EReal)
    (hk : ∀ (c : Dev nD) (z : Fin 2048) (h : Fin 8) (d : Fin 128) (g : Fin 8192), g.val = 2048 * c.val + z.val → k c (ix4 (0 : Fin 1) z h d) = G g h d)
    (c : Dev nD) (ρ : Fin 2304) (n : Fin 1024) (h : Fin 8) (d : Fin 128) (hn : n.val = 128 * h.val + d.val) (g : Fin 8192) (hg : g.val + 128 = 2048 * c.val + ρ.val) :
    full k c (ix2 ρ n) = G g h d := by
  have hc : c.val < 4 := c.isLt
  have hh := h.isLt
  have hd := d.isLt
  have hρ := ρ.isLt
  have own : ∀ (c' : Dev nD) (ρ' : Fin 2304), 128 ≤ ρ'.val → ρ'.val < 2176 → g.val + 128 = 2048 * c'.val + ρ'.val → extOwn (k c') (ix2 ρ' n) = G g h d := by
    intro c' ρ' h1 h2 h3
    unfold extOwn
    rw [dif_pos ⟨show 128 ≤ ρ'.val from h1, show ρ'.val < 2176 from h2⟩]
    show k c' _ = _
    have e1 : (⟨n.val / 128, by omega⟩ : Fin 8) = h := Fin.ext (show n.val / 128 = h.val by omega)
    have e2 : (⟨n.val % 128, by omega⟩ : Fin 128) = d := Fin.ext (show n.val % 128 = d.val by omega)
    refine Eq.trans ?_ (hk c' ⟨ρ'.val - 128, by omega⟩ h d g (show g.val = 2048 * c'.val + (ρ'.val - 128) by omega))
    exact congrArg (k c') (congrArg₂ (fun a b => ix4 (0 : Fin 1) (⟨ρ'.val - 128, by omega⟩ : Fin 2048) a b) e1 e2)
  unfold full
  by_cases hl : ρ.val < 128 ∧ hasL c
  · rw [dif_pos (show (ix2 ρ n 0).val < 128 ∧ hasL c from hl)]
    have hL : 0 < c.val := hl.2
    exact own (prv c) ⟨ρ.val + 2048, by omega⟩ (show 128 ≤ ρ.val + 2048 by omega) (show ρ.val + 2048 < 2176 by omega)
      (show g.val + 128 = 2048 * ((c.val + 3) % 4) + (ρ.val + 2048) by omega)
  · rw [dif_neg (show ¬ ((ix2 ρ n 0).val < 128 ∧ hasL c) from hl)]
    by_cases hr : 2176 ≤ ρ.val ∧ hasR c
    · rw [dif_pos (show 2176 ≤ (ix2 ρ n 0).val ∧ hasR c from hr)]
      have hR : c.val < 3 := hr.2
      exact own (nxt c) ⟨ρ.val - 2048, by omega⟩ (show 128 ≤ ρ.val - 2048 by omega) (show ρ.val - 2048 < 2176 by omega)
        (show g.val + 128 = 2048 * ((c.val + 1) % 4) + (ρ.val - 2048) by omega)
    · rw [dif_neg (show ¬ (2176 ≤ (ix2 ρ n 0).val ∧ hasR c) from hr)]
      have hg' := g.isLt
      have hl' : ¬ (ρ.val < 128 ∧ 0 < c.val) := hl
      have hr' : ¬ (2176 ≤ ρ.val ∧ c.val < 3) := hr
      exact own c ρ (by omega) (by omega) hg

/-! ## One head of one block -/

/-- The context of a query, the scores being real numbers. -/
theorem head_at (c : Dev nD) (t : Fin 8) (z : Fin 256) (d : Fin 128) (q : Vec Ideal S256x128 .bf16) (k v : Vec Ideal S512x128 .bf16)
    (r : Fin 8192 → ℝ) (V : Fin 8192 → EReal) (i : ℕ) (hi : i = 2048 * c.val + 256 * t.val + z.val)
    (hs : ∀ (j : Fin 512) (g : Fin 8192), g.val + 128 = 2048 * c.val + 256 * t.val + j.val → (∑ d : Fin 128, q (ix2 z d) * k (ix2 j d)) = (r g : EReal))
    (hv : ∀ (j : Fin 512) (g : Fin 8192), g.val + 128 = 2048 * c.val + 256 * t.val + j.val → v (ix2 j d) = V g) :
    headP (maskB (place c) t) q k v (ix2 z d) = ∑ g : Fin 8192, V g * (wt (fun g : Fin 8192 => near i g.val) r g : EReal) := by
  have hc : c.val < 4 := c.isLt
  have hP : ∀ j, seen c t z j → ∃ g : Fin 8192, near i g.val ∧ g.val + 128 = 2048 * c.val + 256 * t.val + j.val := by
    intro j hj
    unfold seen at hj
    exact ⟨⟨2048 * c.val + 256 * t.val + j.val - 128, by omega⟩, show near i (2048 * c.val + 256 * t.val + j.val - 128) by unfold near; omega,
      show 2048 * c.val + 256 * t.val + j.val - 128 + 128 = _ by omega⟩
  have hB : ∀ g : Fin 8192, near i g.val → ∃ j : Fin 512, seen c t z j ∧ g.val + 128 = 2048 * c.val + 256 * t.val + j.val := by
    intro g hg
    unfold near at hg
    have hg' := g.isLt
    have hz := z.isLt
    exact ⟨⟨g.val + 128 - (2048 * c.val + 256 * t.val), by omega⟩,
      show (z.val ≤ g.val + 128 - (2048 * c.val + 256 * t.val) ∧ g.val + 128 - (2048 * c.val + 256 * t.val) ≤ z.val + 256)
        ∧ 128 ≤ 2048 * c.val + 256 * t.val + (g.val + 128 - (2048 * c.val + 256 * t.val)) ∧ 2048 * c.val + 256 * t.val + (g.val + 128 - (2048 * c.val + 256 * t.val)) < 8320 by omega,
      show g.val + 128 = 2048 * c.val + 256 * t.val + (g.val + 128 - (2048 * c.val + 256 * t.val)) by omega⟩
  have e1 : ∀ j, Ideal.exp (∑ d : Fin 128, q (ix2 z d) * k (ix2 j d)) * maskB (F := Ideal) (place c) t (ix2 z j)
      = if seen c t z j then Ideal.exp (∑ d : Fin 128, q (ix2 z d) * k (ix2 j d)) else 0 := fun j => by
    rw [mask_at]
    by_cases h : seen c t z j
    · rw [if_pos h, if_pos h, mul_one]
    · rw [if_neg h, if_neg h, mul_zero]
  have e2 : ∀ g : Fin 8192, ((if near i g.val then Real.exp (r g) else 0 : ℝ) : EReal) = if near i g.val then (Real.exp (r g) : EReal) else 0 := fun g => by
    split_ifs <;> rfl
  rw [headP_at]
  simp only [e1, ite_mul, zero_mul]
  rw [sum_window (2048 * c.val + 256 * t.val) (seen c t z) (fun g : Fin 8192 => near i g.val) hP hB _ (fun g => (Real.exp (r g) : EReal) * V g)
      (fun j g _ hg => by rw [hs j g hg, hv j g hg]; rfl),
    sum_window (2048 * c.val + 256 * t.val) (seen c t z) (fun g : Fin 8192 => near i g.val) hP hB _ (fun g => (Real.exp (r g) : EReal))
      (fun j g _ hg => by rw [hs j g hg]; rfl)]
  rw [← softmax_direct (fun g : Fin 8192 => near i g.val) r (j₀ := ⟨i, by omega⟩) (show near i i by unfold near; omega) V]
  simp only [e2, ite_mul, zero_mul]

end Cert.KernelIdeal.Halo

end
-- ==== Proof.RefValues.lean ====
/-
  The reference's result, element by element.
-/
module

public import proofs.«01_k».proof.Proof.Softmax
public import proofs.«01_k».proof.Proof.Gen.ReferenceIdeal.Run
public import Idealize.ShloMosaic.Lib.IdealHost
public import Idealize.ShloMosaic.Lib.Pipeline.Value

@[expose] public section

set_option maxRecDepth 16384

noncomputable section

namespace Cert.ReferenceIdeal.Halo

open Cert.ReferenceIdeal Cert.ReferenceIdeal.Gen Cert.Proof
open Idealize.ShloMosaic Idealize.ShloMosaic.TcCoe Idealize.ShloMosaic.ValueIdx
open scoped BigOperators

/-! ## The three products -/

theorem proj_at (l : FVec Ideal S1x8192x1024 .f32) (r : FVec Ideal S1024x1024 .f32) (i : Fin 8192) (n : Fin 1024) :
    Host.dotGeneral dot_S1x8192x1024_S1024x1024_S1x8192x1024_2_0_01_1_n_n none l r (ix3 (0 : Fin 1) i n)
      = ∑ e : Fin 1024, l (ix3 (0 : Fin 1) i e) * r (ix2 e n) := by
  simp only [Host.dotGeneral]
  rw [Ideal.dotGeneral_apply, ← Equiv.sum_comp (contrEquiv1 dot_S1x8192x1024_S1024x1024_S1x8192x1024_2_0_01_1_n_n 1024 rfl rfl).symm]
  refine Finset.sum_congr rfl fun k _ => ?_
  have hk := contrEquiv1_symm_val dot_S1x8192x1024_S1024x1024_S1x8192x1024_2_0_01_1_n_n 1024 rfl rfl k
  refine congrArg₂ (· * ·) (congrArg l (funext fun a => Fin.ext ?_)) (congrArg r (funext fun a => Fin.ext ?_))
  · match a with
    | ⟨0, _⟩ => rfl
    | ⟨1, _⟩ => rfl
    | ⟨2, _⟩ => exact hk
  · match a with
    | ⟨0, _⟩ => exact hk
    | ⟨1, _⟩ => rfl

theorem qk_at (l r : FVec Ideal S1x8192x8x128 .f32) (h : Fin 8) (i j : Fin 8192) :
    Host.dotGeneral dot_S1x8192x8x128_S1x8192x8x128_S1x8x8192x8192_3_3_1_1_02_02 none l r (ix4 (0 : Fin 1) h i j)
      = ∑ d : Fin 128, l (ix4 (0 : Fin 1) i h d) * r (ix4 (0 : Fin 1) j h d) := by
  simp only [Host.dotGeneral]
  rw [Ideal.dotGeneral_apply, ← Equiv.sum_comp (contrEquiv1 dot_S1x8192x8x128_S1x8192x8x128_S1x8x8192x8192_3_3_1_1_02_02 128 rfl rfl).symm]
  refine Finset.sum_congr rfl fun k _ => ?_
  have hk := contrEquiv1_symm_val dot_S1x8192x8x128_S1x8192x8x128_S1x8x8192x8192_3_3_1_1_02_02 128 rfl rfl k
  refine congrArg₂ (· * ·) (congrArg l (funext fun a => Fin.ext ?_)) (congrArg r (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => exact hk

theorem vw_at (l : FVec Ideal S1x8192x8x128 .f32) (r : FVec Ideal S1x8x8192x8192 .f32) (h : Fin 8) (d : Fin 128) (i : Fin 8192) :
    Host.dotGeneral dot_S1x8192x8x128_S1x8x8192x8192_S1x8x128x8192_1_3_3_2_02_01 none l r (ix4 (0 : Fin 1) h d i)
      = ∑ j : Fin 8192, l (ix4 (0 : Fin 1) j h d) * r (ix4 (0 : Fin 1) h i j) := by
  simp only [Host.dotGeneral]
  rw [Ideal.dotGeneral_apply, ← Equiv.sum_comp (contrEquiv1 dot_S1x8192x8x128_S1x8x8192x8192_S1x8x128x8192_1_3_3_2_02_01 8192 rfl rfl).symm]
  refine Finset.sum_congr rfl fun k _ => ?_
  have hk := contrEquiv1_symm_val dot_S1x8192x8x128_S1x8x8192x8192_S1x8x128x8192_1_3_3_2_02_01 8192 rfl rfl k
  refine congrArg₂ (· * ·) (congrArg l (funext fun a => Fin.ext ?_)) (congrArg r (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

/-! ## The mask -/

/-- Which keys each query sees. -/
def maskR : IVec S8192x8192 1 :=
  cmpi .sle (absi (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (broadcastInDim S8192x8192 ![] bcast_S_S8192x8192 (constantI S_ 32 128#32))

theorem rows_at (i j : Fin 8192) :
    broadcastInDim S8192x8192 ![0, 1] bcast_S8192x1_S8192x8192_0_1 (broadcastInDim S8192x1 ![0] bcast_S8192_S8192x1_0 (iotaInDim S8192 32 0)) (ix2 i j) = BitVec.ofNat 32 i.val := by
  rw [broadcastInDim_apply _ _ _ (ix2 i j) (ix2 i (0 : Fin 1)) (by intro a; match a with | ⟨0, _⟩ => rfl | ⟨1, _⟩ => rfl)]
  rw [broadcastInDim_apply _ _ _ (ix2 i (0 : Fin 1)) (ix1 i) (by intro a; match a with | ⟨0, _⟩ => rfl)]
  rfl
theorem cols_at (i j : Fin 8192) :
    broadcastInDim S8192x8192 ![0, 1] bcast_S1x8192_S8192x8192_0_1 (broadcastInDim S1x8192 ![1] bcast_S8192_S1x8192_1 (iotaInDim S8192 32 0)) (ix2 i j) = BitVec.ofNat 32 j.val := by
  rw [broadcastInDim_apply _ _ _ (ix2 i j) (ix2 (0 : Fin 1) j) (by intro a; match a with | ⟨0, _⟩ => rfl | ⟨1, _⟩ => rfl)]
  rw [broadcastInDim_apply _ _ _ (ix2 (0 : Fin 1) j) (ix1 j) (by intro a; match a with | ⟨0, _⟩ => rfl)]
  rfl

theorem word_near (i j : ℕ) (hi : i < 8192) (hj : j < 8192) :
    IntOp.cmpi .sle (IntOp.absi (IntOp.subi (BitVec.ofNat 32 i) (BitVec.ofNat 32 j))) 128#32 = if near i j then 1#1 else 0#1 := by
  have e : (BitVec.ofNat 32 i - BitVec.ofNat 32 j).toInt = (i : ℤ) - j := by
    have hn : ∀ n : ℕ, n < 8192 → (BitVec.ofNat 32 n).toInt = (n : ℤ) := fun n h => by
      rw [BitVec.toInt_eq_toNat_of_lt (by rw [BitVec.toNat_ofNat]; omega), BitVec.toNat_ofNat]; omega
    rw [BitVec.toInt_sub, hn i hi, hn j hj]
    simp only [Int.bmod_def]
    omega
  have ea : (IntOp.absi (IntOp.subi (BitVec.ofNat 32 i) (BitVec.ofNat 32 j))).toInt = |(i : ℤ) - j| := by
    show (if (BitVec.ofNat 32 i - BitVec.ofNat 32 j).msb then -(BitVec.ofNat 32 i - BitVec.ofNat 32 j) else BitVec.ofNat 32 i - BitVec.ofNat 32 j).toInt = _
    rw [BitVec.msb_eq_toInt, e]
    by_cases hneg : (i : ℤ) - j < 0
    · rw [if_pos (by simpa using hneg), BitVec.toInt_neg, e, abs_of_neg hneg]
      simp only [Int.bmod_def]
      omega
    · rw [if_neg (by simpa using hneg), e, abs_of_nonneg (by omega)]
  show BitVec.ofBool ((IntOp.absi (IntOp.subi (BitVec.ofNat 32 i) (BitVec.ofNat 32 j))).sle 128#32) = _
  rw [BitVec.sle_eq_decide, ea]
  have e128 : (128#32 : BitVec 32).toInt = 128 := by decide
  rw [e128]
  by_cases hn : near i j
  · rw [if_pos hn, decide_eq_true (by unfold near at hn; rw [abs_le]; omega)]; rfl
  · rw [if_neg hn, decide_eq_false (by unfold near at hn; rw [abs_le]; omega)]; rfl

theorem maskR_at (i j : Fin 8192) : maskR (ix2 i j) = if near i.val j.val then 1#1 else 0#1 := by
  rw [← word_near i.val j.val i.isLt j.isLt, ← rows_at i j, ← cols_at i j]
  rfl

instance ori_comm : Std.Commutative (IntOp.ori (w := 1)) := ⟨BitVec.or_comm⟩
instance ori_assoc : Std.Associative (IntOp.ori (w := 1)) := ⟨BitVec.or_assoc⟩

theorem fold_ori (f : Fin 8192 → BitVec 1) (i : Fin 8192) (h : f i = 1#1) : (Finset.univ : Finset (Fin 8192)).fold IntOp.ori 0#1 f = 1#1 := by
  rw [← Finset.insert_erase (Finset.mem_univ i), Finset.fold_insert (Finset.notMem_erase _ _), h]
  generalize Finset.fold IntOp.ori 0#1 f (Finset.univ.erase i) = b
  revert b
  decide

/-- Every query sees a key: itself. -/
theorem keep_at (i : Fin 8192) : Host.reduce IntOp.ori maskR (constantI S_ 1 0#1) reducesTo_S8192x8192_S8192_d1 h_S_ (ix1 i) = 1#1 := by
  have hr : S8192x8192.Reduces [1] S8192 := by decide
  rw [Host.reduce_eq_fold_single IntOp.ori maskR (constantI S_ 1 0#1) reducesTo_S8192x8192_S8192_d1 hr h_S_ (ix1 i)]
  have hl : hr.lift (ix1 i) (i : Fin (S8192x8192.size 1)) = ix2 i i := by
    funext a; apply Fin.ext
    match a with
    | ⟨0, _⟩ => rfl
    | ⟨1, _⟩ => rfl
  exact fold_ori (fun j => maskR (hr.lift (ix1 i) j)) i (by
    show maskR (hr.lift (ix1 i) i) = 1#1
    rw [hl, maskR_at, if_pos (show near i.val i.val by unfold near; omega)])

/-! ## The steps -/

/-- The masked scores. -/
def scoreR (q k : FVec Ideal S1x8192x8x128 .f32) : FVec Ideal S1x8x8192x8192 .f32 :=
  select (broadcastInDim S1x8x8192x8192 ![0, 1, 2, 3] bcast_S1x1x8192x8192_S1x8x8192x8192_0_1_2_3 (broadcastInDim S1x1x8192x8192 ![2, 3] bcast_S8192x8192_S1x1x8192x8192_2_3 maskR))
    (mulf (Host.dotGeneral dot_S1x8192x8x128_S1x8192x8x128_S1x8x8192x8192_3_3_1_1_02_02 none q k) (broadcastInDim S1x8x8192x8192 ![] bcast_S_S1x8x8192x8192 (constant S_ .f32 0x3DB504F3#32)))
    (broadcastInDim S1x8x8192x8192 ![] bcast_S_S1x8x8192x8192 (id (constant S_ .f32 0xFF800000#32)))
/-- Their exponentials, the row's largest score subtracted. -/
def expR (s : FVec Ideal S1x8x8192x8192 .f32) : FVec Ideal S1x8x8192x8192 .f32 :=
  Host.exp (subf s (broadcastInDim S1x8x8192x8192 ![0, 1, 2, 3] bcast_S1x8x8192x1_S1x8x8192x8192_0_1_2_3 (broadcastInDim S1x8x8192x1 ![0, 1, 2] bcast_S1x8x8192_S1x8x8192x1_0_1_2
    (Host.reduce FloatOps.maximumf s (constant S_ .f32 0xFF800000#32) reducesTo_S1x8x8192x8192_S1x8x8192_d3 h_S_))))
/-- Whether a query sees a key. -/
def keepR : IVec S8192 1 := Host.reduce IntOp.ori maskR (constantI S_ 1 0#1) reducesTo_S8192x8192_S8192_d1 h_S_
/-- The row sums of the exponentials. -/
def sumR (e : FVec Ideal S1x8x8192x8192 .f32) : FVec Ideal S1x8x8192x1 .f32 :=
  select (broadcastInDim S1x8x8192x1 ![0, 1, 2, 3] bcast_S1x1x8192x1_S1x8x8192x1_0_1_2_3 (broadcastInDim S1x1x8192x1 ![2] bcast_S8192_S1x1x8192x1_2 keepR))
    (broadcastInDim S1x8x8192x1 ![0, 1, 2] bcast_S1x8x8192_S1x8x8192x1_0_1_2 (Host.reduceAdd e (constant S_ .f32 0x00000000#32) reducesTo_S1x8x8192x8192_S1x8x8192_d3 h_S_))
    (broadcastInDim S1x8x8192x1 ![] bcast_S_S1x8x8192x1 (id (constant S_ .f32 0x3F800000#32)))
/-- The weights. -/
def weightR (e : FVec Ideal S1x8x8192x8192 .f32) : FVec Ideal S1x8x8192x8192 .f32 :=
  select (broadcastInDim S1x8x8192x8192 ![0, 1, 2, 3] bcast_S1x1x8192x1_S1x8x8192x8192_0_1_2_3 (broadcastInDim S1x1x8192x1 ![2] bcast_S8192_S1x1x8192x1_2 keepR))
    (Host.divf e (broadcastInDim S1x8x8192x8192 ![0, 1, 2, 3] bcast_S1x8x8192x1_S1x8x8192x8192_0_1_2_3 (sumR e)))
    (broadcastInDim S1x8x8192x8192 ![] bcast_S_S1x8x8192x8192 (id (constant S_ .f32 0x00000000#32)))
/-- The projected queries, head by head. -/
def qR (x : FVec Ideal S1x8192x1024 .f32) (wq : FVec Ideal S1024x1024 .f32) : FVec Ideal S1x8192x8x128 .f32 :=
  shapeCast S1x8192x8x128 (Host.dotGeneral dot_S1x8192x1024_S1024x1024_S1x8192x1024_2_0_01_1_n_n none x wq) shapeCasts_S1x8192x1024_S1x8192x8x128
/-- The context rows. -/
def ctxR (v : FVec Ideal S1x8192x8x128 .f32) (w : FVec Ideal S1x8x8192x8192 .f32) : FVec Ideal S1x8192x1024 .f32 :=
  shapeCast S1x8192x1024 (transpose S1x8192x8x128 [0, 3, 1, 2] (Host.dotGeneral dot_S1x8192x8x128_S1x8x8192x8192_S1x8x128x8192_1_3_3_2_02_01 none v w) transposes_S1x8x128x8192_S1x8192x8x128_0_3_1_2) shapeCasts_S1x8192x8x128_S1x8192x1024
/-- The whole result. -/
def outR (x : FVec Ideal S1x8192x1024 .f32) (wq : FVec Ideal S1024x1024 .f32) (k v : FVec Ideal S1x8192x8x128 .f32) (wo : FVec Ideal S1024x1024 .f32) : FVec Ideal S1x8192x1024 .f32 :=
  Host.dotGeneral dot_S1x8192x1024_S1024x1024_S1x8192x1024_2_0_01_1_n_n none (ctxR v (weightR (expR (scoreR (qR x wq) k)))) wo

theorem res_eq (m : (ℓ : Loc nD τ sig) → Buf (Elt Ideal) ℓ) (c : Dev nD) :
    Value.res_main_v34 m c = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v34 outR ctxR qR weightR sumR keepR expR scoreR maskR
  rfl

/-! ## The steps at an index -/

theorem ninf : (Ideal.ofBits .f32 0xFF800000#32 : EReal) = ⊥ := by simp [Ideal.ofBits, Ideal.ieee]

theorem scoreR_at (q k : FVec Ideal S1x8192x8x128 .f32) (h : Fin 8) (i j : Fin 8192) :
    scoreR q k (ix4 (0 : Fin 1) h i j)
      = if near i.val j.val then (∑ d : Fin 128, q (ix4 (0 : Fin 1) i h d) * k (ix4 (0 : Fin 1) j h d)) * scale else ⊥ := by
  unfold scoreR
  rw [select_apply, mulf_apply, qk_at]
  rw [broadcastInDim_apply _ _ _ (ix4 (0 : Fin 1) h i j) (ix4 (0 : Fin 1) (0 : Fin 1) i j) (by intro a; match a with | ⟨0, _⟩ => rfl | ⟨1, _⟩ => rfl | ⟨2, _⟩ => rfl | ⟨3, _⟩ => rfl)]
  rw [broadcastInDim_apply _ _ _ (ix4 (0 : Fin 1) (0 : Fin 1) i j) (ix2 i j) (by intro a; match a with | ⟨0, _⟩ => rfl | ⟨1, _⟩ => rfl)]
  rw [maskR_at]
  by_cases hn : near i.val j.val
  · rw [if_pos hn, if_pos hn]; rfl
  · rw [if_neg hn, if_neg hn]; exact ninf

theorem expR_at (s : FVec Ideal S1x8x8192x8192 .f32) (h : Fin 8) (i j : Fin 8192) :
    expR s (ix4 (0 : Fin 1) h i j)
      = Ideal.exp (s (ix4 (0 : Fin 1) h i j) - (Finset.univ : Finset (Fin 8192)).fold max ⊥ (fun j => s (ix4 (0 : Fin 1) h i j))) := by
  have hr : S1x8x8192x8192.Reduces [3] S1x8x8192 := by decide
  unfold expR
  show Ideal.exp (s (ix4 (0 : Fin 1) h i j) - _) = _
  rw [broadcastInDim_apply _ _ _ (ix4 (0 : Fin 1) h i j) (ix4 (0 : Fin 1) h i (0 : Fin 1)) (by intro a; match a with | ⟨0, _⟩ => rfl | ⟨1, _⟩ => rfl | ⟨2, _⟩ => rfl | ⟨3, _⟩ => rfl)]
  rw [broadcastInDim_apply _ _ _ (ix4 (0 : Fin 1) h i (0 : Fin 1)) (ix3 (0 : Fin 1) h i) (by intro a; match a with | ⟨0, _⟩ => rfl | ⟨1, _⟩ => rfl | ⟨2, _⟩ => rfl)]
  rw [Host.reduce_eq_fold_single FloatOps.maximumf s _ reducesTo_S1x8x8192x8192_S1x8x8192_d3 hr h_S_]
  have hl : s ∘ hr.lift (ix3 (0 : Fin 1) h i) = fun j : Fin 8192 => s (ix4 (0 : Fin 1) h i j) := by
    funext j'
    refine congrArg s (funext fun a => Fin.ext ?_)
    match a with
    | ⟨0, _⟩ => rfl
    | ⟨1, _⟩ => rfl
    | ⟨2, _⟩ => rfl
    | ⟨3, _⟩ => rfl
  rw [hl]
  show Ideal.exp (_ - (Finset.univ : Finset (Fin 8192)).fold max (Ideal.ofBits .f32 0xFF800000#32) _) = _
  rw [ninf]

theorem sumR_at (e : FVec Ideal S1x8x8192x8192 .f32) (h : Fin 8) (i : Fin 8192) :
    sumR e (ix4 (0 : Fin 1) h i (0 : Fin 1)) = 0 + ∑ j : Fin 8192, e (ix4 (0 : Fin 1) h i j) := by
  have hr : S1x8x8192x8192.Reduces [3] S1x8x8192 := by decide
  unfold sumR keepR
  rw [select_apply]
  rw [broadcastInDim_apply _ bcast_S1x1x8192x1_S1x8x8192x1_0_1_2_3 _ (ix4 (0 : Fin 1) h i (0 : Fin 1)) (ix4 (0 : Fin 1) (0 : Fin 1) i (0 : Fin 1)) (by intro a; match a with | ⟨0, _⟩ => rfl | ⟨1, _⟩ => rfl | ⟨2, _⟩ => rfl | ⟨3, _⟩ => rfl)]
  rw [broadcastInDim_apply _ bcast_S8192_S1x1x8192x1_2 _ (ix4 (0 : Fin 1) (0 : Fin 1) i (0 : Fin 1)) (ix1 i) (by intro a; match a with | ⟨0, _⟩ => rfl)]
  rw [keep_at, select_one]
  rw [broadcastInDim_apply _ bcast_S1x8x8192_S1x8x8192x1_0_1_2 _ (ix4 (0 : Fin 1) h i (0 : Fin 1)) (ix3 (0 : Fin 1) h i) (by intro a; match a with | ⟨0, _⟩ => rfl | ⟨1, _⟩ => rfl | ⟨2, _⟩ => rfl)]
  rw [hostReduceAdd_apply, Ideal.hostReduceAdd_single _ hr]
  refine congrArg₂ (· + ·) Ideal.ofBits_zero_f32 (Finset.sum_congr rfl fun k _ => congrArg e (funext fun a => Fin.ext ?_))
  match a with
  | ⟨0, _⟩ => rfl
  | ⟨1, _⟩ => rfl
  | ⟨2, _⟩ => rfl
  | ⟨3, _⟩ => rfl

theorem weightR_at (e : FVec Ideal S1x8x8192x8192 .f32) (h : Fin 8) (i j : Fin 8192) :
    weightR e (ix4 (0 : Fin 1) h i j) = Ideal.div (e (ix4 (0 : Fin 1) h i j)) (0 + ∑ j : Fin 8192, e (ix4 (0 : Fin 1) h i j)) := by
  unfold weightR
  rw [select_apply]
  rw [broadcastInDim_apply _ bcast_S1x1x8192x1_S1x8x8192x8192_0_1_2_3 _ (ix4 (0 : Fin 1) h i j) (ix4 (0 : Fin 1) (0 : Fin 1) i (0 : Fin 1)) (by intro a; match a with | ⟨0, _⟩ => rfl | ⟨1, _⟩ => rfl | ⟨2, _⟩ => rfl | ⟨3, _⟩ => rfl)]
  rw [broadcastInDim_apply _ bcast_S8192_S1x1x8192x1_2 _ (ix4 (0 : Fin 1) (0 : Fin 1) i (0 : Fin 1)) (ix1 i) (by intro a; match a with | ⟨0, _⟩ => rfl)]
  unfold keepR
  rw [keep_at, select_one, hostDivf_apply]
  rw [broadcastInDim_apply _ bcast_S1x8x8192x1_S1x8x8192x8192_0_1_2_3 _ (ix4 (0 : Fin 1) h i j) (ix4 (0 : Fin 1) h i (0 : Fin 1)) (by intro a; match a with | ⟨0, _⟩ => rfl | ⟨1, _⟩ => rfl | ⟨2, _⟩ => rfl | ⟨3, _⟩ => rfl)]
  rw [sumR_at]

theorem qR_at (x : FVec Ideal S1x8192x1024 .f32) (wq : FVec Ideal S1024x1024 .f32) (i : Fin 8192) (h : Fin 8) (d : Fin 128) :
    qR x wq (ix4 (0 : Fin 1) i h d) = ∑ e : Fin 1024, x (ix3 (0 : Fin 1) i e) * wq (ix2 e (⟨128 * h.val + d.val, by omega⟩ : Fin 1024)) := by
  unfold qR
  rw [shapeCast_apply _ _ (ix4 (0 : Fin 1) i h d) (ix3 (0 : Fin 1) i (⟨128 * h.val + d.val, by omega⟩ : Fin 1024)) (by
    rw [Shape.rowMajor_val_three, Shape.rowMajor_val_four]
    show ((0 * 8192 + i.val) * 1024 + (128 * h.val + d.val) : ℕ) = ((0 * 8192 + i.val) * 8 + h.val) * 128 + d.val
    omega)]
  exact proj_at _ _ _ _

theorem ctxR_at (v : FVec Ideal S1x8192x8x128 .f32) (w : FVec Ideal S1x8x8192x8192 .f32) (i : Fin 8192) (h : Fin 8) (d : Fin 128) :
    ctxR v w (ix3 (0 : Fin 1) i (⟨128 * h.val + d.val, by omega⟩ : Fin 1024)) = ∑ j : Fin 8192, v (ix4 (0 : Fin 1) j h d) * w (ix4 (0 : Fin 1) h i j) := by
  unfold ctxR
  rw [shapeCast_apply _ _ (ix3 (0 : Fin 1) i (⟨128 * h.val + d.val, by omega⟩ : Fin 1024)) (ix4 (0 : Fin 1) i h d) (by
    rw [Shape.rowMajor_val_three, Shape.rowMajor_val_four]
    show ((0 * 8192 + i.val) * 8 + h.val) * 128 + d.val = ((0 * 8192 + i.val) * 1024 + (128 * h.val + d.val) : ℕ)
    omega)]
  rw [transpose_apply _ _ _ (ix4 (0 : Fin 1) i h d) (ix4 (0 : Fin 1) h d i) (by intro b; match b with | ⟨0, _⟩ => rfl | ⟨1, _⟩ => rfl | ⟨2, _⟩ => rfl | ⟨3, _⟩ => rfl)]
  exact vw_at _ _ _ _ _

/-! ## The result at an index -/

/-- The context of a query `i`, head `h`, column `d`, the scores being real numbers. -/
theorem ctx_at (q k v : FVec Ideal S1x8192x8x128 .f32) (h : Fin 8) (d : Fin 128) (i : Fin 8192) (r : Fin 8192 → ℝ)
    (hr : ∀ j, (∑ d : Fin 128, q (ix4 (0 : Fin 1) i h d) * k (ix4 (0 : Fin 1) j h d)) * scale = (r j : EReal)) :
    ctxR v (weightR (expR (scoreR q k))) (ix3 (0 : Fin 1) i (⟨128 * h.val + d.val, by omega⟩ : Fin 1024))
      = ∑ j : Fin 8192, v (ix4 (0 : Fin 1) j h d) * (wt (fun j : Fin 8192 => near i.val j.val) r j : EReal) := by
  rw [ctxR_at]
  refine Finset.sum_congr rfl fun j _ => congrArg (v (ix4 (0 : Fin 1) j h d) * ·) ?_
  rw [weightR_at]
  simp only [expR_at]
  refine softmax_shifted (fun j : Fin 8192 => near i.val j.val) r (j₀ := i) (by unfold near; omega) (fun j => scoreR q k (ix4 (0 : Fin 1) h i j)) (fun j => ?_) j
  rw [scoreR_at, hr]

end Cert.ReferenceIdeal.Halo

end
-- ==== Proof.Agree.lean ====
/-
  The kernel's result on a device is the device's part of the reference's, when the queries' inputs and the keys are real.
-/
module

public import proofs.«01_k».proof.Proof.Values
public import proofs.«01_k».proof.Proof.RefValues

@[expose] public section

set_option maxRecDepth 16384

noncomputable section

namespace Cert.Proof

open Idealize.ShloMosaic Idealize.ShloMosaic.ValueIdx
open Cert.KernelIdeal (nD S1x2048x1024 S1024x1024 S1x2048x8x128)
open Cert.KernelIdeal.Halo Cert.ReferenceIdeal.Halo
open scoped BigOperators

abbrev Seq : Type := FVec Ideal Cert.ReferenceIdeal.S1x8192x1024 .f32
abbrev Keys : Type := FVec Ideal Cert.ReferenceIdeal.S1x8192x8x128 .f32
abbrev Mat : Type := FVec Ideal Cert.KernelIdeal.S1024x1024 .f32

/-- A score of real operands, scaled after the products or before them, is the same real number. -/
theorem score_real {E D : Type} [Fintype E] [Fintype D] (x : E → ℝ) (w : E → D → ℝ) (k : D → ℝ) (s : ℝ) :
    ((∑ d, (∑ e, (x e : EReal) * (w e d : EReal)) * (k d : EReal)) * (s : EReal) = ((∑ d, (∑ e, x e * w e d) * k d) * s : ℝ))
    ∧ ((∑ d, ((∑ e, (x e : EReal) * (w e d : EReal)) * (s : EReal)) * (k d : EReal)) = ((∑ d, (∑ e, x e * w e d) * k d) * s : ℝ)) := by
  simp only [← EReal.coe_mul, ← coe_sum]
  refine ⟨trivial, congrArg _ ?_⟩
  rw [Finset.sum_mul]
  exact Finset.sum_congr rfl fun d _ => by ring

theorem agree (X : Seq) (Wq Wo : Mat) (K V : Keys) (x : Vec Ideal S1x2048x1024 .f32) (k v : Dev nD → Vec Ideal S1x2048x8x128 .f32) (c : Dev nD)
    (hx : ∀ (z : Fin 2048) (e : Fin 1024) (i : Fin 8192), i.val = 2048 * c.val + z.val → x (ix3 (0 : Fin 1) z e) = X (ix3 (0 : Fin 1) i e))
    (hk : ∀ (c : Dev nD) (z : Fin 2048) (h : Fin 8) (d : Fin 128) (g : Fin 8192), g.val = 2048 * c.val + z.val → k c (ix4 (0 : Fin 1) z h d) = K (ix4 (0 : Fin 1) g h d))
    (hv : ∀ (c : Dev nD) (z : Fin 2048) (h : Fin 8) (d : Fin 128) (g : Fin 8192), g.val = 2048 * c.val + z.val → v c (ix4 (0 : Fin 1) z h d) = V (ix4 (0 : Fin 1) g h d))
    (fX : ∀ i, ∃ r : ℝ, X i = (r : EReal)) (fW : ∀ i, ∃ r : ℝ, Wq i = (r : EReal)) (fK : ∀ i, ∃ r : ℝ, K i = (r : EReal))
    (z : Fin 2048) (n : Fin 1024) (i : Fin 8192) (hi : i.val = 2048 * c.val + z.val) :
    resOf k v c x Wq Wo (ix3 (0 : Fin 1) z n) = outR X Wq K V Wo (ix3 (0 : Fin 1) i n) := by
  choose xr hxr using fX
  choose wr hwr using fW
  choose kr hkr using fK
  obtain ⟨s, hs⟩ := scale_real
  unfold resOf outB outR
  refine (pay38_at _ _ _ _).trans (Eq.trans ?_ (proj_at _ _ _ _).symm)
  refine Finset.sum_congr rfl fun e _ => congrArg₂ (· * ·) ?_ (pay12_at _ _)
  have hz := z.isLt
  have he := e.isLt
  let h : Fin 8 := ⟨e.val / 128, by omega⟩
  let d : Fin 128 := ⟨e.val % 128, Nat.mod_lt _ (by omega)⟩
  have hcol : (⟨128 * h.val + d.val, by omega⟩ : Fin 1024) = e := Fin.ext (show 128 * (e.val / 128) + e.val % 128 = e.val by omega)
  let S : Fin 8192 → ℝ := fun g => (∑ d : Fin 128, (∑ e : Fin 1024, xr (ix3 (0 : Fin 1) i e) * wr (ix2 e (⟨128 * h.val + d.val, by omega⟩ : Fin 1024))) * kr (ix4 (0 : Fin 1) g h d)) * s
  have hS : ∀ g : Fin 8192, _ := fun g => score_real (fun e : Fin 1024 => xr (ix3 (0 : Fin 1) i e)) (fun e (d : Fin 128) => wr (ix2 e (⟨128 * h.val + d.val, by omega⟩ : Fin 1024))) (fun d : Fin 128 => kr (ix4 (0 : Fin 1) g h d)) s
  have hR := ctx_at (qR X Wq) K V h d i S (fun g => by
    simp only [qR_at, hxr, hwr, hkr, hs]
    exact (hS g).1)
  rw [hcol] at hR
  refine Eq.trans ?_ hR.symm
  refine head_at c ⟨z.val / 256, by omega⟩ ⟨z.val % 256, Nat.mod_lt _ (by omega)⟩ d _ _ _ S (fun g => V (ix4 (0 : Fin 1) g h d)) i.val
    (show i.val = 2048 * c.val + 256 * (z.val / 256) + z.val % 256 by omega) (fun j g hg => ?_) (fun j g hg => ?_)
  · refine Eq.trans (Finset.sum_congr rfl fun d' _ => ?_) (hS g).2
    have hz' : (⟨256 * (z.val / 256) + z.val % 256, by omega⟩ : Fin 2048) = z := Fin.ext (show 256 * (z.val / 256) + z.val % 256 = z.val by omega)
    refine congrArg₂ (· * ·) ?_ ?_
    · refine (congrArg (fun a => Cert.KernelIdeal.Gen.k0_pay11 x Wq (ix2 a (⟨128 * h.val + d'.val, by omega⟩ : Fin 1024))) hz').trans ?_
      rw [pay11_at, hs]
      refine congrArg (· * (s : EReal)) (Finset.sum_congr rfl fun e' _ => ?_)
      rw [hx z e' i hi, hxr, hwr]
    · refine (full_at k (fun g h d => K (ix4 (0 : Fin 1) g h d)) hk c ⟨256 * (z.val / 256) + j.val, by omega⟩ _ h d' rfl g ?_).trans (hkr _)
      have : g.val + 128 = 2048 * c.val + 256 * (z.val / 256) + j.val := hg
      show g.val + 128 = 2048 * c.val + (256 * (z.val / 256) + j.val)
      omega
  · refine full_at v (fun g h d => V (ix4 (0 : Fin 1) g h d)) hv c ⟨256 * (z.val / 256) + j.val, by omega⟩ _ h d rfl g ?_
    have : g.val + 128 = 2048 * c.val + 256 * (z.val / 256) + j.val := hg
    show g.val + 128 = 2048 * c.val + (256 * (z.val / 256) + j.val)
    omega

end Cert.Proof

end
-- ==== Proof.Finite.lean ====
/-
  The precondition read back: an array whose elements all have an absolute value below +∞ holds real numbers.
-/
module

public import proofs.«01_k».proof.Pre_finite_KernelIdeal
public import proofs.«01_k».proof.Pre_finite_ReferenceIdeal
public import Idealize.ShloMosaic.Lib.ReduceAll
public import Idealize.ShloMosaic.PureOps.Ideal.Laws

@[expose] public section

set_option maxRecDepth 16384

noncomputable section

namespace Cert.Proof

open Idealize.ShloMosaic

theorem facts_kernel : Cert.Pre_finite_KernelIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x2048x8x128 := by decide
  reducesTo_S1x2048x8x128_S_d0_1_2_3 := by decide

theorem facts_reference : Cert.Pre_finite_ReferenceIdeal.Facts where
  bcast_S_S1x8192x1024 := by decide
  reducesTo_S1x8192x1024_S_d0_1_2 := by decide
  h_S_ := by decide
  bcast_S_S1024x1024 := by decide
  reducesTo_S1024x1024_S_d0_1 := by decide
  bcast_S_S1x8192x8x128 := by decide
  reducesTo_S1x8192x8x128_S_d0_1_2_3 := by decide

/-- An extended real whose absolute value is below +∞ is a real number. -/
theorem real_of_lt (a : EReal) (h : Ideal.cmp .olt (max a (-a)) (Ideal.ofBits .f32 0x7F800000#32) = 1#1) : ∃ r : ℝ, a = (r : EReal) := by
  have htop : (Ideal.ofBits .f32 0x7F800000#32 : EReal) = ⊤ := by simp [Ideal.ofBits, Ideal.ieee]
  rw [htop] at h
  induction a with
  | bot => simp [Ideal.cmp] at h
  | top => simp [Ideal.cmp] at h
  | coe r => exact ⟨r, rfl⟩

instance : Subsingleton Cert.Pre_finite_KernelIdeal.S_.Idx := ⟨fun a b => funext fun d => d.elim0⟩

/-- One `all` of the precondition, read at an index. -/
theorem all_real {s : Shape} {axes : List (Fin s.rank)} (x : FVec Ideal s .f32) (hb : Cert.Pre_finite_KernelIdeal.S_.BroadcastsInDim s (![] : Fin 0 → Fin s.rank))
    (hr : s.ReducesTo axes Cert.Pre_finite_KernelIdeal.S_) (hu : 0 < Cert.Pre_finite_KernelIdeal.S_.numel) (j : Cert.Pre_finite_KernelIdeal.S_.Idx)
    (h : Host.reduce IntOp.andi (cmpf .olt (Host.absf x) (broadcastInDim s ![] hb (constant Cert.Pre_finite_KernelIdeal.S_ .f32 0x7F800000#32)))
      (constantI Cert.Pre_finite_KernelIdeal.S_ 1 1#1) hr hu j = 1#1) (i : s.Idx) : ∃ r : ℝ, x i = (r : EReal) :=
  real_of_lt (x i) (Host.reduce_andi_all _ _ hr hu j h i)

/-- The precondition: the tokens, the query weights and the keys are real numbers. -/
theorem finite_of [Cert.Pre_finite_KernelIdeal.Facts] (a0 : FVec Ideal Cert.Pre_finite_KernelIdeal.S1x2048x1024 .f32) (a1 a4 : FVec Ideal Cert.Pre_finite_KernelIdeal.S1024x1024 .f32)
    (a2 a3 : FVec Ideal Cert.Pre_finite_KernelIdeal.S1x2048x8x128 .f32) (h : Cert.Pre_finite_KernelIdeal.fn a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h (fun d => d.elim0)
  obtain ⟨h1, h2⟩ := IntOp.andi_eq_one.1 h0
  obtain ⟨h3, h4⟩ := IntOp.andi_eq_one.1 h1
  exact ⟨all_real _ _ _ _ _ h3, all_real _ _ _ _ _ h4, all_real _ _ _ _ _ h2⟩

end Cert.Proof

end
-- ==== Proof.Algebraic.lean ====
/-
  The value claim: from finite arguments, the devices' results are the blocks of the reference's.
-/
module

public import proofs.«01_k».proof.Defs
public import proofs.«01_k».proof.Proof.Agree
public import proofs.«01_k».proof.Proof.Finite
public import proofs.«01_k».proof.Proof.Launch
public import proofs.«01_k».proof.Proof.Gen.ReferenceIdeal.Run
public import Idealize.ShloMosaic.Lib.LayoutAt

@[expose] public section

set_option maxRecDepth 16384

noncomputable section

namespace Cert.Proof

open Idealize.ShloMosaic Idealize.ShloMosaic.ValueIdx Idealize.SL.Sem
open Cert.KernelIdeal.Halo Cert.ReferenceIdeal.Halo

/-! ## A device's block of a whole array, at an index -/

section Block

variable {α : Type}

theorem block3_at (c : Fin 4) (w : (⟨3, ![1, 8192, 1024]⟩ : Shape).Idx → α) (z : Fin 2048) (n : Fin 1024) (i : Fin 8192) (hi : i.val = 2048 * c.val + z.val) :
    Layout.block ⟨3, ![1, 2048, 1024]⟩ ⟨3, ![1, 8192, 1024]⟩ 1 4 c w (by decide) (ix3 (0 : Fin 1) z n) = w (ix3 (0 : Fin 1) i n) := by
  rw [Layout.block_apply]
  refine congrArg w (funext fun b => Fin.ext ?_)
  match b with
  | ⟨0, _⟩ => exact Layout.Tiles.idx_val_of_ne _ _ _ _ (show 0 ≠ 1 by decide)
  | ⟨1, _⟩ =>
    refine (Layout.Tiles.idx_val_self _ _ _ _ rfl).trans ?_
    show c.val * 2048 + z.val = i.val
    omega
  | ⟨2, _⟩ => exact Layout.Tiles.idx_val_of_ne _ _ _ _ (show 2 ≠ 1 by decide)

theorem block4_at (c : Fin 4) (w : (⟨4, ![1, 8192, 8, 128]⟩ : Shape).Idx → α) (z : Fin 2048) (h : Fin 8) (d : Fin 128) (i : Fin 8192) (hi : i.val = 2048 * c.val + z.val) :
    Layout.block ⟨4, ![1, 2048, 8, 128]⟩ ⟨4, ![1, 8192, 8, 128]⟩ 1 4 c w (by decide) (ix4 (0 : Fin 1) z h d) = w (ix4 (0 : Fin 1) i h d) := by
  rw [Layout.block_apply]
  refine congrArg w (funext fun b => Fin.ext ?_)
  match b with
  | ⟨0, _⟩ => exact Layout.Tiles.idx_val_of_ne _ _ _ _ (show 0 ≠ 1 by decide)
  | ⟨1, _⟩ =>
    refine (Layout.Tiles.idx_val_self _ _ _ _ rfl).trans ?_
    show c.val * 2048 + z.val = i.val
    omega
  | ⟨2, _⟩ => exact Layout.Tiles.idx_val_of_ne _ _ _ _ (show 2 ≠ 1 by decide)
  | ⟨3, _⟩ => exact Layout.Tiles.idx_val_of_ne _ _ _ _ (show 3 ≠ 1 by decide)

/-- A property of all the blocks' elements is one of the whole array's. -/
theorem of_blocks3 (w : (⟨3, ![1, 8192, 1024]⟩ : Shape).Idx → α) (P : α → Prop)
    (h : ∀ c : Fin 4, ∀ i, P (Layout.block ⟨3, ![1, 2048, 1024]⟩ ⟨3, ![1, 8192, 1024]⟩ 1 4 c w (by decide) i)) (i : (⟨3, ![1, 8192, 1024]⟩ : Shape).Idx) : P (w i) := by
  have h0 : (i 0).val < 1 := (i 0).isLt
  have h1 : (i 1).val < 8192 := (i 1).isLt
  have hc := h ⟨(i 1).val / 2048, by omega⟩ (ix3 (0 : Fin 1) (⟨(i 1).val % 2048, Nat.mod_lt _ (by omega)⟩ : Fin 2048) (i 2))
  replace hc := (congrArg P (block3_at _ w _ (i 2) (i 1) (show (i 1).val = 2048 * ((i 1).val / 2048) + (i 1).val % 2048 by omega))).mp hc
  have e : i = ix3 (0 : Fin 1) (i 1) (i 2) := funext fun b => by
    match b with
    | ⟨0, _⟩ => exact Fin.ext (show (i 0).val = 0 by omega)
    | ⟨1, _⟩ => rfl
    | ⟨2, _⟩ => rfl
  rw [e]
  exact hc

theorem of_blocks4 (w : (⟨4, ![1, 8192, 8, 128]⟩ : Shape).Idx → α) (P : α → Prop)
    (h : ∀ c : Fin 4, ∀ i, P (Layout.block ⟨4, ![1, 2048, 8, 128]⟩ ⟨4, ![1, 8192, 8, 128]⟩ 1 4 c w (by decide) i)) (i : (⟨4, ![1, 8192, 8, 128]⟩ : Shape).Idx) : P (w i) := by
  have h0 : (i 0).val < 1 := (i 0).isLt
  have h1 : (i 1).val < 8192 := (i 1).isLt
  have hc := h ⟨(i 1).val / 2048, by omega⟩ (ix4 (0 : Fin 1) (⟨(i 1).val % 2048, Nat.mod_lt _ (by omega)⟩ : Fin 2048) (i 2) (i 3))
  replace hc := (congrArg P (block4_at _ w _ (i 2) (i 3) (i 1) (show (i 1).val = 2048 * ((i 1).val / 2048) + (i 1).val % 2048 by omega))).mp hc
  have e : i = ix4 (0 : Fin 1) (i 1) (i 2) (i 3) := funext fun b => by
    match b with
    | ⟨0, _⟩ => exact Fin.ext (show (i 0).val = 0 by omega)
    | ⟨1, _⟩ => rfl
    | ⟨2, _⟩ => rfl
    | ⟨3, _⟩ => rfl
  rw [e]
  exact hc

end Block

/-! ## The claim -/

/-- The devices' results are the blocks of the reference's, the arguments being blocks or copies. -/
theorem out_block (X : Seq) (Wq Wo : Mat) (K V : Keys) (x : Dev Cert.KernelIdeal.nD → Vec Ideal Cert.KernelIdeal.S1x2048x1024 .f32)
    (k v : Dev Cert.KernelIdeal.nD → Vec Ideal Cert.KernelIdeal.S1x2048x8x128 .f32)
    (hx : ∀ c, x c = Layout.block ⟨3, ![1, 2048, 1024]⟩ ⟨3, ![1, 8192, 1024]⟩ 1 4 c X)
    (hk : ∀ c, k c = Layout.block ⟨4, ![1, 2048, 8, 128]⟩ ⟨4, ![1, 8192, 8, 128]⟩ 1 4 c K)
    (hv : ∀ c, v c = Layout.block ⟨4, ![1, 2048, 8, 128]⟩ ⟨4, ![1, 8192, 8, 128]⟩ 1 4 c V)
    (fx : ∀ c i, ∃ r : ℝ, x c i = (r : EReal)) (fW : ∀ i, ∃ r : ℝ, Wq i = (r : EReal)) (fk : ∀ c i, ∃ r : ℝ, k c i = (r : EReal)) (c : Dev Cert.KernelIdeal.nD) :
    resOf k v c (x c) Wq Wo = Layout.block ⟨3, ![1, 2048, 1024]⟩ ⟨3, ![1, 8192, 1024]⟩ 1 4 c (outR X Wq K V Wo) := by
  funext y
  have h0 : (y 0).val < 1 := (y 0).isLt
  have h1 : (y 1).val < 2048 := (y 1).isLt
  have hc : c.val < 4 := c.isLt
  have e : y = ix3 (0 : Fin 1) (y 1) (y 2) := funext fun b => by
    match b with
    | ⟨0, _⟩ => exact Fin.ext (show (y 0).val = 0 by omega)
    | ⟨1, _⟩ => rfl
    | ⟨2, _⟩ => rfl
  rw [e]
  let i : Fin 8192 := ⟨2048 * c.val + (y 1).val, by omega⟩
  refine Eq.trans ?_ (block3_at c (outR X Wq K V Wo) (y 1) (y 2) i rfl).symm
  refine agree X Wq Wo K V (x c) k v c (fun z e i hi => ?_) (fun c z h d g hg => ?_) (fun c z h d g hg => ?_)
    (of_blocks3 X (fun a => ∃ r : ℝ, a = (r : EReal)) fun c i => ?_) fW (of_blocks4 K (fun a => ∃ r : ℝ, a = (r : EReal)) fun c i => ?_) (y 1) (y 2) i rfl
  · rw [hx c]
    exact block3_at c X z e i hi
  · rw [hk c]
    exact block4_at c K z h d g hg
  · rw [hv c]
    exact block4_at c V z h d g hg
  · have := fx c i
    rw [hx c] at this
    exact this
  · have := fk c i
    rw [hk c] at this
    exact this

theorem algebraic [Cert.Pre_finite_KernelIdeal.Facts] : Cert.algebraic_KernelIdeal_ReferenceIdeal_pre_finite_KernelIdeal := by
  intro m g m' g' hpre hm
  refine ⟨Cert.ReferenceIdeal.Value.res_main_v34 m' 0, (θ_run Cert.KernelIdeal.defs _ _).mono (fun r h c => ⟨(h.1 c).trans ?_, h.2.1 c⟩) (run_final (F := Ideal) m g),
    (θ_run Cert.ReferenceIdeal.defs _ _).mono (fun r h => h 0) (Cert.ReferenceIdeal.Value.run (F := Ideal) m' g')⟩
  have hf := fun c => finite_of _ _ _ _ _ (hpre c)
  unfold outA
  rw [xA_eq, wqA_eq, woA_eq, (hm c).2.1, (hm c).2.2.2.2, res_eq]
  refine out_block _ _ _ _ _ (fun c => m ((c.tc : Thread Cert.KernelIdeal.nD Cert.KernelIdeal.τ).loc Cert.KernelIdeal.main_arg0)) (kA m) (vA m)
    (fun c => (hm c).1) (fun c => (hm c).2.2.1) (fun c => (hm c).2.2.2.1) (fun c => (hf c).1) ?_ (fun c => (hf c).2.2) c
  rw [← (hm c).2.1]
  exact (hf c).2.1

end Cert.Proof

end
-- ==== Proof.lean ====
/-
  The proof of the claims: the programs' and predicates' stated facts, then each claim from the module that proves it.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, facts_kernel, facts_reference,
    frame_bits, frame_ideal, fun m ρ _ => frame_ideal m ρ trivial, frame_reference, fun m ρ _ => frame_reference m ρ trivial, trivial,
    letI := facts_kernel; algebraic⟩

end Cert.Proof

end
